-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v21) = v0 c
          ∧ r.2.mem ((c.tc : Thread Cert.Reference14Ideal.nD Cert.Reference14Ideal.τ).loc Cert.Reference14Ideal.main_v22) = v1 c
          ∧ r.2.mem ((c.tc : Thread Cert.Reference14Ideal.nD Cert.Reference14Ideal.τ).loc Cert.Reference14Ideal.main_v23) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v22) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v35) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_v18) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v50) = v1 c
          ∧ r.2.mem ((c.tc : Thread Cert.Reference18Ideal.nD Cert.Reference18Ideal.τ).loc Cert.Reference18Ideal.main_v33) = v2 c
          ∧ r.2.mem ((c.tc : Thread Cert.Reference18Ideal.nD Cert.Reference18Ideal.τ).loc Cert.Reference18Ideal.main_v66) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite7.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x1024 .bf16) (main_arg1 : FVec F S2816x1024 .bf16) (main_arg2 : FVec F S2048x2816 .bf16) (main_arg3 : FVec F S2048x2816 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S2048x2816 .f32 := (extf .f32 · bitsLt_bf16_f32) main_arg3
  let main_v11 : FVec F S2048x2816 .f32 := Host.absf main_v10
  let main_cst_2 : FVec F S_ .f32 := constant S_ .f32 0x7F800000#32
  let main_v12 : FVec F S2048x2816 .f32 := broadcastInDim S2048x2816 ![] bcast_S_S2048x2816 main_cst_2
  let main_v13 : IVec S2048x2816 1 := cmpf .olt main_v11 main_v12
  let main_c_3 : IVec S_ 1 := constantI S_ 1 1#1
  let main_v14 : IVec S_ 1 := (fun x v => Host.reduce IntOp.andi x v reducesTo_S2048x2816_S_d0_1 h_S_) main_v13 main_c_3
  let main_v15 : IVec S_ 1 := andi main_v4 main_v9
  let main_v16 : IVec S_ 1 := andi main_v15 main_v14
  main_v16
-- ==== Kernel.lean ====
abbrev S2048x1024 : Shape := ⟨2, ![2048, 1024]⟩
abbrev S2048x6656 : Shape := ⟨2, ![2048, 6656]⟩
abbrev S3x1024 : Shape := ⟨2, ![3, 1024]⟩
abbrev S2048x256 : Shape := ⟨2, ![2048, 256]⟩
abbrev S3x256 : Shape := ⟨2, ![3, 256]⟩
abbrev S1x3x2048x256 : Shape := ⟨4, ![1, 3, 2048, 256]⟩
abbrev S1x3 : Shape := ⟨2, ![1, 3]⟩
abbrev S1x256 : Shape := ⟨2, ![1, 256]⟩
abbrev S1x1 : Shape := ⟨2, ![1, 1]⟩
abbrev S_ : Shape := ⟨0, ![]⟩
abbrev S1x1x2048x256 : Shape := ⟨4, ![1, 1, 2048, 256]⟩
abbrev S256 : Shape := ⟨1, ![256]⟩

abbrev nBuf : Space → Nat
  | .hbm => 6
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S2048x6656, .bf16⟩
  | .hbm, ⟨2, _⟩ => ⟨S3x1024, .f32⟩
  | .hbm, ⟨3, _⟩ => ⟨S2048x6656, .bf16⟩
  | .hbm, ⟨4, _⟩ => ⟨S2048x6656, .bf16⟩
  | .hbm, ⟨5, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x3x2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v60 : BitVec 32 := Scalar.muli arg0 c0_i32
  let c2_i32_22 : BitVec 32 := 2#32
  let v71 : BitVec 1 := Scalar.cmpi .sge v60 c2_i32_22
  let v72 : BitVec 32 := Scalar.extui v71
  let c0_i32_23 : BitVec 32 := 0#32
  let v73 : BitVec 1 := Scalar.cmpi .ne v72 c0_i32_23
  v73

def k0_mult1 (i : grid0.Coords) : BitVec 32 :=
  let c0_i32_63 : BitVec 32 := 0#32
  let arg0 : BitVec 32 := BitVec.ofNat 32 (i 0).val
  let c256_i32_62 : BitVec 32 := 256#32
  let v124 : BitVec 32 := Scalar.muli arg0 c256_i32_62
  let v125 : BitVec 32 := Scalar.addi c0_i32_63 v124
  v125
def k0_mult2 (i : grid0.Coords) : BitVec 32 :=
  let c1024_i32_65 : BitVec 32 := 1024#32
  let arg0 : BitVec 32 := BitVec.ofNat 32 (i 0).val
  let c256_i32_64 : BitVec 32 := 256#32
  let v127 : BitVec 32 := Scalar.muli arg0 c256_i32_64
  let v128 : BitVec 32 := Scalar.addi c1024_i32_65 v127
  v128
def k0_mult3 (i : grid0.Coords) : BitVec 32 :=
  let c2048_i32_67 : BitVec 32 := 2048#32
  let arg0 : BitVec 32 := BitVec.ofNat 32 (i 0).val
  let c256_i32_66 : BitVec 32 := 256#32
  let v130 : BitVec 32 := Scalar.muli arg0 c256_i32_66
  let v131 : BitVec 32 := Scalar.addi c2048_i32_67 v130
  v131
def k0_off1 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c0_i32_69 : BitVec 32 := 0#32
  ![v70.toNat, 0]
def k0_off2 (i : grid0.Coords) (c0_i32_63 : BitVec 32) : Fin 2 → Nat :=
  let c0_i32_70 : BitVec 32 := 0#32
  let arg0 : BitVec 32 := BitVec.ofNat 32 (i 0).val
  let c256_i32_62 : BitVec 32 := 256#32
  let v124 : BitVec 32 := Scalar.muli arg0 c256_i32_62
  let v125 : BitVec 32 := Scalar.addi c0_i32_63 v124
  let v126 : BitVec 32 := v125
  ![0, v126.toNat]
def k0_off3 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c0_i32_68 : BitVec 32 := 0#32
  let c0_i32_71 : BitVec 32 := 0#32
  let c0_i32_72 : BitVec 32 := 0#32
  ![v70.toNat, 0, 0, 0]
def k0_off4 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c1_i32_74 : BitVec 32 := 1#32
  ![v70.toNat, 1]
def k0_off5 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c1_i32_73 : BitVec 32 := 1#32
  let c0_i32_76 : BitVec 32 := 0#32
  let c0_i32_77 : BitVec 32 := 0#32
  ![v70.toNat, 1, 0, 0]
def k0_off6 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c2_i32_79 : BitVec 32 := 2#32
  ![v70.toNat, 2]
def k0_off7 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c2_i32_78 : BitVec 32 := 2#32
  let c0_i32_81 : BitVec 32 := 0#32
  let c0_i32_82 : BitVec 32 := 0#32
  ![v70.toNat, 2, 0, 0]
def k0_off8 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let v74 : Index := Scalar.indexCast v70
  let c0_24 : Index := 0#32
  let c0_25 : Index := 0#32
  let c0_26 : Index := 0#32
  ![v74.toNat, 0, 0, 0]
def k0_off9 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let v78 : Index := Scalar.indexCast v70
  let c1 : Index := 1#32
  let c0_27 : Index := 0#32
  let c0_28 : Index := 0#32
  ![v78.toNat, 1, 0, 0]
def k0_off10 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let v82 : Index := Scalar.indexCast v70
  let c2 : Index := 2#32
  let c0_29 : Index := 0#32
  let c0_30 : Index := 0#32
  ![v82.toNat, 2, 0, 0]
def k0_mult4 (i : grid0.Coords) : BitVec 32 :=
  let c0_i32_31 : BitVec 32 := 0#32
  let arg0 : BitVec 32 := BitVec.ofNat 32 (i 0).val
  let c256_i32 : BitVec 32 := 256#32
  let v86 : BitVec 32 := Scalar.muli arg0 c256_i32
  let v87 : BitVec 32 := Scalar.addi c0_i32_31 v86
  v87
def k0_mult5 (i : grid0.Coords) : BitVec 32 :=
  let c1024_i32 : BitVec 32 := 1024#32
  let arg0 : BitVec 32 := BitVec.ofNat 32 (i 0).val
  let c256_i32_32 : BitVec 32 := 256#32
  let v89 : BitVec 32 := Scalar.muli arg0 c256_i32_32
  let v90 : BitVec 32 := Scalar.addi c1024_i32 v89
  v90
def k0_mult6 (i : grid0.Coords) : BitVec 32 :=
  let c2048_i32 : BitVec 32 := 2048#32
  let arg0 : BitVec 32 := BitVec.ofNat 32 (i 0).val
  let c256_i32_33 : BitVec 32 := 256#32
  let v92 : BitVec 32 := Scalar.muli arg0 c256_i32_33
  let v93 : BitVec 32 := Scalar.addi c2048_i32 v92
  v93
def k0_off11 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c0_i32_35 : BitVec 32 := 0#32
  ![v70.toNat, 0]
def k0_off12 (i : grid0.Coords) (c0_i32_31 : BitVec 32) : Fin 2 → Nat :=
  let c0_i32_36 : BitVec 32 := 0#32
  let arg0 : BitVec 32 := BitVec.ofNat 32 (i 0).val
  let c256_i32 : BitVec 32 := 256#32
  let v86 : BitVec 32 := Scalar.muli arg0 c256_i32
  let v87 : BitVec 32 := Scalar.addi c0_i32_31 v86
  let v88 : BitVec 32 := v87
  ![0, v88.toNat]
def k0_off13 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c0_i32_34 : BitVec 32 := 0#32
  let c0_i32_37 : BitVec 32 := 0#32
  let c0_i32_38 : BitVec 32 := 0#32
  ![v70.toNat, 0, 0, 0]
def k0_off14 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c1_i32_40 : BitVec 32 := 1#32
  ![v70.toNat, 1]
def k0_off15 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c1_i32_39 : BitVec 32 := 1#32
  let c0_i32_42 : BitVec 32 := 0#32
  let c0_i32_43 : BitVec 32 := 0#32
  ![v70.toNat, 1, 0, 0]
def k0_off16 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c2_i32_45 : BitVec 32 := 2#32
  ![v70.toNat, 2]
def k0_off17 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c2_i32_44 : BitVec 32 := 2#32
  let c0_i32_47 : BitVec 32 := 0#32
  let c0_i32_48 : BitVec 32 := 0#32
  ![v70.toNat, 2, 0, 0]
def k0_cond2 (i : grid0.Coords) : BitVec 1 :=
  let arg0 : BitVec 32 := BitVec.ofNat 32 (i 0).val
  let c0_i32 : BitVec 32 := 0#32
  let v60 : BitVec 32 := Scalar.muli arg0 c0_i32
  let c0_i32_49 : BitVec 32 := 0#32
  let v110 : BitVec 1 := Scalar.cmpi .eq v60 c0_i32_49
  let v111 : BitVec 32 := Scalar.extui v110
  let c0_i32_56 : BitVec 32 := 0#32
  let v112 : BitVec 1 := Scalar.cmpi .ne v111 c0_i32_56
  v112

def k0_off18 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c0_i32_51 : BitVec 32 := 0#32
  ![v70.toNat, 0]
def k0_off19 (i : grid0.Coords) (c0_i32_31 : BitVec 32) : Fin 2 → Nat :=
  let c0_i32_62 : BitVec 32 := 0#32
  let arg0 : BitVec 32 := BitVec.ofNat 32 (i 0).val
  let c256_i32 : BitVec 32 := 256#32
  let v86 : BitVec 32 := Scalar.muli arg0 c256_i32
  let v87 : BitVec 32 := Scalar.addi c0_i32_31 v86
  let v88 : BitVec 32 := v87
  ![0, v88.toNat]
def k0_off20 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c0_i32_50 : BitVec 32 := 0#32
  let c0_i32_63 : BitVec 32 := 0#32
  let c0_i32_64 : BitVec 32 := 0#32
  ![v70.toNat, 0, 0, 0]
def k0_off21 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c1_i32_53 : BitVec 32 := 1#32
  ![v70.toNat, 1]
def k0_off22 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c1_i32_52 : BitVec 32 := 1#32
  let c0_i32_66 : BitVec 32 := 0#32
  let c0_i32_67 : BitVec 32 := 0#32
  ![v70.toNat, 1, 0, 0]
def k0_off23 (i : grid0.Coords) : Fin 2 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c2_i32_55 : BitVec 32 := 2#32
  ![v70.toNat, 2]
def k0_off24 (i : grid0.Coords) : Fin 4 → Nat :=
  let arg0 : BitVec 32 := BitVec.ofNat 32 (i 0).val
  let c0_i32 : BitVec 32 := 0#32
  let v60 : BitVec 32 := Scalar.muli arg0 c0_i32
  let c2_i32_16 : BitVec 32 := 2#32
  let c0_i32_17 : BitVec 32 := 0#32
  let v61 : BitVec 1 := Scalar.cmpi .eq c2_i32_16 c0_i32_17
  let c1_i32_18 : BitVec 32 := 1#32
  let v62 : BitVec 32 := Scalar.select v61 c1_i32_18 c2_i32_16
  let v63 : BitVec 32 := Scalar.remsi v60 v62
  let c0_i32_20 : BitVec 32 := 0#32
  let v65 : BitVec 1 := Scalar.cmpi .slt v63 c0_i32_20
  let c0_i32_21 : BitVec 32 := 0#32
  let v66 : BitVec 1 := Scalar.cmpi .slt v62 c0_i32_21
  let v67 : BitVec 1 := Scalar.xori v65 v66
  let c0_i32_19 : BitVec 32 := 0#32
  let v64 : BitVec 1 := Scalar.cmpi .ne v63 c0_i32_19
  let v68 : BitVec 1 := Scalar.andi v67 v64
  let v69 : BitVec 32 := Scalar.addi v63 v62
  let v70 : BitVec 32 := Scalar.select v68 v69 v63
  let c2_i32_54 : BitVec 32 := 2#32
  let c0_i32_69 : BitVec 32 := 0#32
  let c0_i32_70 : BitVec 32 := 0#32
  ![v70.toNat, 2, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x1024 : Shape := ⟨2, ![2048, 1024]⟩
abbrev S2048x6656 : Shape := ⟨2, ![2048, 6656]⟩
abbrev S3x1024 : Shape := ⟨2, ![3, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S2048x3072 : Shape := ⟨2, ![2048, 3072]⟩
abbrev S2048x3584 : Shape := ⟨2, ![2048, 3584]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6656, .bf16⟩
  | .hbm, ⟨2, _⟩ => ⟨S3x1024, .f32⟩
  | .hbm, ⟨3, _⟩ => ⟨S2048x6656, .bf16⟩
  | .hbm, ⟨4, _⟩ => ⟨S2048x6656, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2x1024, .f32⟩
  | .hbm, ⟨11, _⟩ => ⟨S2050x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S2050x1024, .f32⟩
  | .hbm, ⟨40, _⟩ => ⟨S_, .f32⟩
  | .hbm, ⟨41, _⟩ => ⟨S3x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S2050x1024, .f32⟩
  | .hbm, ⟨50, _⟩ => ⟨S2050x1024, .f32⟩
  | .hbm, ⟨51, _⟩ => ⟨S_, .f32⟩
  | .hbm, ⟨52, _⟩ => ⟨S3x1024, .f32⟩
  | .hbm, ⟨53, _⟩ => ⟨S3x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S2050x1024, .f32⟩
  | .hbm, ⟨62, _⟩ => ⟨S2050x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S2x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x3072, .f32⟩
  | .hbm, ⟨71, _⟩ => ⟨S2048x3072, .bf16⟩
  | .hbm, ⟨72, _⟩ => ⟨S2048x3584, .bf16⟩
  | .hbm, ⟨73, _⟩ => ⟨S2048x6656, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel2.lean ====
abbrev S2048x6656 : Shape := ⟨2, ![2048, 6656]⟩
abbrev S2048x1024 : Shape := ⟨2, ![2048, 1024]⟩
abbrev S6656x1024 : Shape := ⟨2, ![6656, 1024]⟩
abbrev S1024x1664 : Shape := ⟨2, ![1024, 1664]⟩
abbrev S1664x1024 : Shape := ⟨2, ![1664, 1024]⟩
abbrev S1024x1024 : Shape := ⟨2, ![1024, 1024]⟩
abbrev S256x1664 : Shape := ⟨2, ![256, 1664]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x6656, .bf16⟩
  | .hbm, ⟨1, _⟩ => ⟨S2048x1024, .bf16⟩
  | .hbm, ⟨2, _⟩ => ⟨S6656x1024, .bf16⟩
  | .hbm, ⟨3, _⟩ => ⟨S2048x1024, .bf16⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v35 : BitVec 1 := Scalar.cmpi .eq arg2 c3_i32
  let v36 : BitVec 32 := Scalar.extui v35
  let c0_i32_32 : BitVec 32 := 0#32
  let v37 : BitVec 1 := Scalar.cmpi .ne v36 c0_i32_32
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x6656 : Shape := ⟨2, ![2048, 6656]⟩
abbrev S2048x1024 : Shape := ⟨2, ![2048, 1024]⟩
abbrev S6656x1024 : Shape := ⟨2, ![6656, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S2048x1024, .bf16⟩
  | .hbm, ⟨2, _⟩ => ⟨S6656x1024, .bf16⟩
  | .hbm, ⟨3, _⟩ => ⟨S2048x6656, .f32⟩
  | .hbm, ⟨4, _⟩ => ⟨S2048x6656, .f32⟩
  | .hbm, ⟨5, _⟩ => ⟨S6656x1024, .f32⟩
  | .hbm, ⟨6, _⟩ => ⟨S6656x1024, .bf16⟩
  | .hbm, ⟨7, _⟩ => ⟨S2048x1024, .f32⟩
  | .hbm, ⟨8, _⟩ => ⟨S2048x1024, .bf16⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x6656 : Shape := ⟨2, ![2048, 6656]⟩
abbrev S2048x1024 : Shape := ⟨2, ![2048, 1024]⟩
abbrev S6656x1024 : Shape := ⟨2, ![6656, 1024]⟩
abbrev S2048x512 : Shape := ⟨2, ![2048, 512]⟩
abbrev S512x1024 : Shape := ⟨2, ![512, 1024]⟩
abbrev S2048x128 : Shape := ⟨2, ![2048, 128]⟩
abbrev S128x1024 : Shape := ⟨2, ![128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x6656, .bf16⟩
  | .hbm, ⟨1, _⟩ => ⟨S2048x1024, .bf16⟩
  | .hbm, ⟨2, _⟩ => ⟨S6656x1024, .bf16⟩
  | .hbm, ⟨3, _⟩ => ⟨S6656x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x6656 : Shape := ⟨2, ![2048, 6656]⟩
abbrev S2048x1024 : Shape := ⟨2, ![2048, 1024]⟩
abbrev S6656x1024 : Shape := ⟨2, ![6656, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S2048x1024, .bf16⟩
  | .hbm, ⟨2, _⟩ => ⟨S6656x1024, .bf16⟩
  | .hbm, ⟨3, _⟩ => ⟨S2048x6656, .f32⟩
  | .hbm, ⟨4, _⟩ => ⟨S2048x6656, .f32⟩
  | .hbm, ⟨5, _⟩ => ⟨S6656x1024, .f32⟩
  | .hbm, ⟨6, _⟩ => ⟨S6656x1024, .bf16⟩
  | .hbm, ⟨7, _⟩ => ⟨S2048x1024, .f32⟩
  | .hbm, ⟨8, _⟩ => ⟨S2048x1024, .bf16⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x2816 : Shape := ⟨2, ![2048, 2816]⟩
abbrev S2048x1024 : Shape := ⟨2, ![2048, 1024]⟩
abbrev S5632x1024 : Shape := ⟨2, ![5632, 1024]⟩
abbrev S1024x1408 : Shape := ⟨2, ![1024, 1408]⟩
abbrev S1408x1024 : Shape := ⟨2, ![1408, 1024]⟩
abbrev S1024x1024 : Shape := ⟨2, ![1024, 1024]⟩
abbrev S256x1408 : Shape := ⟨2, ![256, 1408]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .hbm, ⟨4, _⟩ => ⟨S2048x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x2816 : Shape := ⟨2, ![2048, 2816]⟩
abbrev S2048x1024 : Shape := ⟨2, ![2048, 1024]⟩
abbrev S5632x1024 : Shape := ⟨2, ![5632, 1024]⟩
abbrev S2048x5632 : Shape := ⟨2, ![2048, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S5632x1024, .f32⟩
  | .hbm, ⟨15, _⟩ => ⟨S5632x1024, .bf16⟩
  | .hbm, ⟨16, _⟩ => ⟨S2048x1024, .f32⟩
  | .hbm, ⟨17, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .hbm, ⟨4, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x2816 : Shape := ⟨2, ![2048, 2816]⟩
abbrev S2048x1024 : Shape := ⟨2, ![2048, 1024]⟩
abbrev S5632x1024 : Shape := ⟨2, ![5632, 1024]⟩
abbrev S2048x5632 : Shape := ⟨2, ![2048, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S5632x1024, .f32⟩
  | .hbm, ⟨15, _⟩ => ⟨S5632x1024, .bf16⟩
  | .hbm, ⟨16, _⟩ => ⟨S2048x1024, .f32⟩
  | .hbm, ⟨17, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel6.lean ====
abbrev S2048x1024 : Shape := ⟨2, ![2048, 1024]⟩
abbrev S2048x2816 : Shape := ⟨2, ![2048, 2816]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2816x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x2816 : Shape := ⟨2, ![2048, 2816]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2816x1024, .bf16⟩
  | .hbm, ⟨3, _⟩ => ⟨S2048x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S2048x2816, .f32⟩
  | .hbm, ⟨9, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .hbm, ⟨5, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩
abbrev S1024x2816 : Shape := ⟨2, ![1024, 2816]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S2048x2816, .f32⟩
  | .hbm, ⟨5, _⟩ => ⟨S2048x2816, .f32⟩
  | .hbm, ⟨6, _⟩ => ⟨S2816x1024, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S2048x1024, .f32⟩
  | .hbm, ⟨23, _⟩ => ⟨S1024x2816, .f32⟩
  | .hbm, ⟨24, _⟩ => ⟨S2816x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .bf16⟩
  | .hbm, ⟨33, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩
abbrev S2048x128 : Shape := ⟨2, ![2048, 128]⟩
abbrev S128x1024 : Shape := ⟨2, ![128, 1024]⟩

abbrev nBuf : Space → Nat
  | .hbm => 12
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S2048x1024 : Shape := ⟨2, ![2048, 1024]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S2048x1024, .f32⟩
  | .hbm, ⟨19, _⟩ => ⟨S2048x1024, .bf16⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S2048x1024, .f32⟩
  | .hbm, ⟨24, _⟩ => ⟨S2048x1024, .bf16⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S2048x1024, .f32⟩
  | .hbm, ⟨29, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S2048x1024 : Shape := ⟨2, ![2048, 1024]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S2048x1024, .bf16⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S2048x1024, .f32⟩
  | .hbm, ⟨19, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel10.lean ====
abbrev S2048x1024 : Shape := ⟨2, ![2048, 1024]⟩
abbrev S6656x1024 : Shape := ⟨2, ![6656, 1024]⟩
abbrev S2048x6656 : Shape := ⟨2, ![2048, 6656]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S6656x1024, .bf16⟩
  | .hbm, ⟨2, _⟩ => ⟨S2048x6656, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S6656x1024 : Shape := ⟨2, ![6656, 1024]⟩
abbrev S2048x6656 : Shape := ⟨2, ![2048, 6656]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6656x1024, .bf16⟩
  | .hbm, ⟨2, _⟩ => ⟨S2048x6656, .f32⟩
  | .hbm, ⟨3, _⟩ => ⟨S2048x6656, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2048x1024 : Shape := ⟨2, ![2048, 1024]⟩
abbrev S5632x1024 : Shape := ⟨2, ![5632, 1024]⟩
abbrev S2048x2816 : Shape := ⟨2, ![2048, 2816]⟩
abbrev S256x1024 : Shape := ⟨2, ![256, 1024]⟩
abbrev S2048x256 : Shape := ⟨2, ![2048, 256]⟩
abbrev S512x1024 : Shape := ⟨2, ![512, 1024]⟩
abbrev S512x256 : Shape := ⟨2, ![512, 256]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .bf16⟩
  | .hbm, ⟨3, _⟩ => ⟨S2048x2816, .bf16⟩
  | .hbm, ⟨4, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S2048x1024 : Shape := ⟨2, ![2048, 1024]⟩
abbrev S5632x1024 : Shape := ⟨2, ![5632, 1024]⟩
abbrev S2048x5632 : Shape := ⟨2, ![2048, 5632]⟩
abbrev S2048x2816 : Shape := ⟨2, ![2048, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .bf16⟩
  | .hbm, ⟨16, _⟩ => ⟨S2048x2816, .bf16⟩
  | .hbm, ⟨17, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel12.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩
abbrev S256x2816 : Shape := ⟨2, ![256, 2816]⟩
abbrev S256x512 : Shape := ⟨2, ![256, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩
abbrev S2048x6656 : Shape := ⟨2, ![2048, 6656]⟩
abbrev S1024x512 : Shape := ⟨2, ![1024, 512]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S2048x6656, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S2048x1024 : Shape := ⟨2, ![2048, 1024]⟩
abbrev S1024x1024 : Shape := ⟨2, ![1024, 1024]⟩
abbrev S2048x6656 : Shape := ⟨2, ![2048, 6656]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S2048x6656, .bf16⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | .hbm, ⟨31, _⟩ => ⟨S2048x1024, .bf16⟩
  | .hbm, ⟨32, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel15.lean ====
abbrev S2048x6656 : Shape := ⟨2, ![2048, 6656]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x6656, .bf16⟩
  | .hbm, ⟨1, _⟩ => ⟨S3x1024, .f32⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S2048x6656 : Shape := ⟨2, ![2048, 6656]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S3x1024, .f32⟩
  | .hbm, ⟨2, _⟩ => ⟨S2048x6656, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel16.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .bf16⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S2048x1, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S_, .f32⟩
  | .hbm, ⟨88, _⟩ => ⟨S1024, .f32⟩
  | .hbm, ⟨89, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_15 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_cst_17 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_18 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Proof.ConvBody.lean ====
/-
  The body of the gated convolution's gradient, run once per grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S2048x6656 .bf16 := Memref.whole main_v0_0
abbrev scM : Memref sig .tc .vmem S1x3x2048x256 .bf16 := Memref.whole cc0_scratch0

theorem dec1 : ∀ i : grid0.Coords, k0_cond1 i ≠ 1#1 := by decide +kernel
theorem dec2 : ∀ i : grid0.Coords, k0_cond2 i = 1#1 := by decide +kernel

theorem off8_eq : ∀ i : grid0.Coords, k0_off8 i = ![0, 0, 0, 0] := by decide +kernel
instance (i : grid0.Coords) : ClosedOff (k0_off8 i) := ⟨_, off8_eq i⟩
theorem off9_eq : ∀ i : grid0.Coords, k0_off9 i = ![0, 1, 0, 0] := by decide +kernel
instance (i : grid0.Coords) : ClosedOff (k0_off9 i) := ⟨_, off9_eq i⟩
theorem off10_eq : ∀ i : grid0.Coords, k0_off10 i = ![0, 2, 0, 0] := by decide +kernel
instance (i : grid0.Coords) : ClosedOff (k0_off10 i) := ⟨_, off10_eq i⟩
theorem off13_eq : ∀ i : grid0.Coords, k0_off13 i = ![0, 0, 0, 0] := by decide +kernel
instance (i : grid0.Coords) : ClosedOff (k0_off13 i) := ⟨_, off13_eq i⟩
theorem off15_eq : ∀ i : grid0.Coords, k0_off15 i = ![0, 1, 0, 0] := by decide +kernel
instance (i : grid0.Coords) : ClosedOff (k0_off15 i) := ⟨_, off15_eq i⟩
theorem off17_eq : ∀ i : grid0.Coords, k0_off17 i = ![0, 2, 0, 0] := by decide +kernel
instance (i : grid0.Coords) : ClosedOff (k0_off17 i) := ⟨_, off17_eq i⟩
theorem off20_eq : ∀ i : grid0.Coords, k0_off20 i = ![0, 0, 0, 0] := by decide +kernel
instance (i : grid0.Coords) : ClosedOff (k0_off20 i) := ⟨_, off20_eq i⟩
theorem off22_eq : ∀ i : grid0.Coords, k0_off22 i = ![0, 1, 0, 0] := by decide +kernel
instance (i : grid0.Coords) : ClosedOff (k0_off22 i) := ⟨_, off22_eq i⟩
theorem off24_eq : ∀ i : grid0.Coords, k0_off24 i = ![0, 2, 0, 0] := by decide +kernel
instance (i : grid0.Coords) : ClosedOff (k0_off24 i) := ⟨_, off24_eq i⟩
theorem off11_eq : ∀ i : grid0.Coords, k0_off11 i = ![0, 0] := by decide +kernel
instance (i : grid0.Coords) : ClosedOff (k0_off11 i) := ⟨_, off11_eq i⟩
theorem off14_eq : ∀ i : grid0.Coords, k0_off14 i = ![0, 1] := by decide +kernel
instance (i : grid0.Coords) : ClosedOff (k0_off14 i) := ⟨_, off14_eq i⟩
theorem off16_eq : ∀ i : grid0.Coords, k0_off16 i = ![0, 2] := by decide +kernel
instance (i : grid0.Coords) : ClosedOff (k0_off16 i) := ⟨_, off16_eq i⟩
theorem off18_eq : ∀ i : grid0.Coords, k0_off18 i = ![0, 0] := by decide +kernel
instance (i : grid0.Coords) : ClosedOff (k0_off18 i) := ⟨_, off18_eq i⟩
theorem off21_eq : ∀ i : grid0.Coords, k0_off21 i = ![0, 1] := by decide +kernel
instance (i : grid0.Coords) : ClosedOff (k0_off21 i) := ⟨_, off21_eq i⟩
theorem off23_eq : ∀ i : grid0.Coords, k0_off23 i = ![0, 2] := by decide +kernel
instance (i : grid0.Coords) : ClosedOff (k0_off23 i) := ⟨_, off23_eq i⟩
theorem off12_0 : ∀ i : grid0.Coords, k0_off12 i 0#32 = ![0, 1024 * 0 + 256 * (i 0).val] := by decide +kernel
instance (i : grid0.Coords) : ClosedOff (k0_off12 i 0#32) := ⟨_, off12_0 i⟩
theorem off12_1024 : ∀ i : grid0.Coords, k0_off12 i 1024#32 = ![0, 1024 * 1 + 256 * (i 0).val] := by decide +kernel
instance (i : grid0.Coords) : ClosedOff (k0_off12 i 1024#32) := ⟨_, off12_1024 i⟩
theorem off12_2048 : ∀ i : grid0.Coords, k0_off12 i 2048#32 = ![0, 1024 * 2 + 256 * (i 0).val] := by decide +kernel
instance (i : grid0.Coords) : ClosedOff (k0_off12 i 2048#32) := ⟨_, off12_2048 i⟩
theorem off19_0 : ∀ i : grid0.Coords, k0_off19 i 0#32 = ![0, 1024 * 0 + 256 * (i 0).val] := by decide +kernel
instance (i : grid0.Coords) : ClosedOff (k0_off19 i 0#32) := ⟨_, off19_0 i⟩
theorem off19_1024 : ∀ i : grid0.Coords, k0_off19 i 1024#32 = ![0, 1024 * 1 + 256 * (i 0).val] := by decide +kernel
instance (i : grid0.Coords) : ClosedOff (k0_off19 i 1024#32) := ⟨_, off19_1024 i⟩
theorem off19_2048 : ∀ i : grid0.Coords, k0_off19 i 2048#32 = ![0, 1024 * 2 + 256 * (i 0).val] := by decide +kernel
instance (i : grid0.Coords) : ClosedOff (k0_off19 i 2048#32) := ⟨_, off19_2048 i⟩

theorem dOff_inb (p : Fin 3) (i : grid0.Coords) : ∀ a, (![0, 1024 * p.val + 256 * (i 0).val] : Fin 2 → ℕ) a + S2048x256.size a ≤ S2048x6656.size a := by
  have := (i 0).isLt; have hp := p.isLt; have hi : (i 0).val < 4 := (i 0).isLt; intro a; fin_cases a
  · show 0 + 2048 ≤ 2048; omega
  · show 1024 * p.val + 256 * (i 0).val + 256 ≤ 6656; omega
theorem sOff_inb (p : Fin 3) : ∀ a, (![0, p.val, 0, 0] : Fin 4 → ℕ) a + S1x1x2048x256.size a ≤ S1x3x2048x256.size a := by
  have hp := p.isLt; intro a; fin_cases a
  · show 0 + 1 ≤ 1; omega
  · show p.val + 1 ≤ 3; omega
  · show 0 + 2048 ≤ 2048; omega
  · show 0 + 256 ≤ 256; omega
theorem cOff_inb (p : Fin 3) : ∀ a, (![0, p.val] : Fin 2 → ℕ) a + S1x1.size a ≤ S1x3.size a := by
  have hp := p.isLt; intro a; fin_cases a
  · show 0 + 1 ≤ 1; omega
  · show p.val + 1 ≤ 3; omega

/-- Section `p`'s columns at point `i`: where the kernel's copy number `p` lands. -/
def dW (p : Fin 3) (i : grid0.Coords) : Memref sig .tc .hbm S2048x256 .bf16 :=
  hbM.slice (Rect.unit (s := S2048x6656) ![0, 1024 * p.val + 256 * (i 0).val] S2048x256.size (dOff_inb p i)) (fun _ => rfl)
/-- Row `p` of the scratch: what copy number `p` reads. -/
def sR (p : Fin 3) : Memref sig .tc .vmem S2048x256 .bf16 :=
  (scM.slice (Rect.unit (s := S1x3x2048x256) ![0, p.val, 0, 0] S1x1x2048x256.size (sOff_inb p)) (fun _ => rfl)).squeeze S2048x256 squeezes_S1x1x2048x256_S2048x256
/-- The semaphore copy number `p` signals. -/
def csm (p : Fin 3) : DmaSems sig S_ :=
  (cc0_scratch1.slice (Rect.unit (s := S1x3) ![0, p.val] S1x1.size (cOff_inb p))).squeeze S_ squeezes_S1x1_S_

theorem dW_of {off : Fin 2 → ℕ} (p : Fin 3) (i : grid0.Coords) (h : ∀ a, off a + S2048x256.size a ≤ S2048x6656.size a) (h' : ∀ _, _)
    (e : off = ![0, 1024 * p.val + 256 * (i 0).val]) : hbM.slice (Rect.unit (s := S2048x6656) off S2048x256.size h) h' = dW p i := by
  subst e; exact Eq.refl _
theorem sR_of {off : Fin 4 → ℕ} (p : Fin 3) (h : ∀ a, off a + S1x1x2048x256.size a ≤ S1x3x2048x256.size a) (h' : ∀ _, _) (h'' : _)
    (e : off = ![0, p.val, 0, 0]) : (scM.slice (Rect.unit (s := S1x3x2048x256) off S1x1x2048x256.size h) h').squeeze S2048x256 h'' = sR p := by
  subst e; exact Eq.refl _
theorem csm_of {off : Fin 2 → ℕ} (p : Fin 3) (h : ∀ a, off a + S1x1.size a ≤ S1x3.size a) (h'' : _)
    (e : off = ![0, p.val]) : (cc0_scratch1.slice (Rect.unit (s := S1x3) off S1x1.size h)).squeeze S_ h'' = csm p := by
  subst e; exact Eq.refl _

@[sl_canon] theorem src13 (i : grid0.Coords) (h h' h'') : (scM.slice (Rect.unit (s := S1x3x2048x256) (k0_off13 i) S1x1x2048x256.size h) h').squeeze S2048x256 h'' = sR 0 := sR_of 0 _ _ _ (off13_eq i)
@[sl_canon] theorem src15 (i : grid0.Coords) (h h' h'') : (scM.slice (Rect.unit (s := S1x3x2048x256) (k0_off15 i) S1x1x2048x256.size h) h').squeeze S2048x256 h'' = sR 1 := sR_of 1 _ _ _ (off15_eq i)
@[sl_canon] theorem src17 (i : grid0.Coords) (h h' h'') : (scM.slice (Rect.unit (s := S1x3x2048x256) (k0_off17 i) S1x1x2048x256.size h) h').squeeze S2048x256 h'' = sR 2 := sR_of 2 _ _ _ (off17_eq i)
@[sl_canon] theorem src20 (i : grid0.Coords) (h h' h'') : (scM.slice (Rect.unit (s := S1x3x2048x256) (k0_off20 i) S1x1x2048x256.size h) h').squeeze S2048x256 h'' = sR 0 := sR_of 0 _ _ _ (off20_eq i)
@[sl_canon] theorem src22 (i : grid0.Coords) (h h' h'') : (scM.slice (Rect.unit (s := S1x3x2048x256) (k0_off22 i) S1x1x2048x256.size h) h').squeeze S2048x256 h'' = sR 1 := sR_of 1 _ _ _ (off22_eq i)
@[sl_canon] theorem src24 (i : grid0.Coords) (h h' h'') : (scM.slice (Rect.unit (s := S1x3x2048x256) (k0_off24 i) S1x1x2048x256.size h) h').squeeze S2048x256 h'' = sR 2 := sR_of 2 _ _ _ (off24_eq i)
@[sl_canon] theorem cell11 (i : grid0.Coords) (h h'') : (cc0_scratch1.slice (Rect.unit (s := S1x3) (k0_off11 i) S1x1.size h)).squeeze S_ h'' = csm 0 := csm_of 0 _ _ (off11_eq i)
@[sl_canon] theorem cell14 (i : grid0.Coords) (h h'') : (cc0_scratch1.slice (Rect.unit (s := S1x3) (k0_off14 i) S1x1.size h)).squeeze S_ h'' = csm 1 := csm_of 1 _ _ (off14_eq i)
@[sl_canon] theorem cell16 (i : grid0.Coords) (h h'') : (cc0_scratch1.slice (Rect.unit (s := S1x3) (k0_off16 i) S1x1.size h)).squeeze S_ h'' = csm 2 := csm_of 2 _ _ (off16_eq i)
@[sl_canon] theorem cell18 (i : grid0.Coords) (h h'') : (cc0_scratch1.slice (Rect.unit (s := S1x3) (k0_off18 i) S1x1.size h)).squeeze S_ h'' = csm 0 := csm_of 0 _ _ (off18_eq i)
@[sl_canon] theorem cell21 (i : grid0.Coords) (h h'') : (cc0_scratch1.slice (Rect.unit (s := S1x3) (k0_off21 i) S1x1.size h)).squeeze S_ h'' = csm 1 := csm_of 1 _ _ (off21_eq i)
@[sl_canon] theorem cell23 (i : grid0.Coords) (h h'') : (cc0_scratch1.slice (Rect.unit (s := S1x3) (k0_off23 i) S1x1.size h)).squeeze S_ h'' = csm 2 := csm_of 2 _ _ (off23_eq i)
@[sl_canon] theorem dst12_0 (i : grid0.Coords) (h h') : hbM.slice (Rect.unit (s := S2048x6656) (k0_off12 i 0#32) S2048x256.size h) h' = dW 0 i := dW_of 0 i _ _ (off12_0 i)
@[sl_canon] theorem dst12_1 (i : grid0.Coords) (h h') : hbM.slice (Rect.unit (s := S2048x6656) (k0_off12 i 1024#32) S2048x256.size h) h' = dW 1 i := dW_of 1 i _ _ (off12_1024 i)
@[sl_canon] theorem dst12_2 (i : grid0.Coords) (h h') : hbM.slice (Rect.unit (s := S2048x6656) (k0_off12 i 2048#32) S2048x256.size h) h' = dW 2 i := dW_of 2 i _ _ (off12_2048 i)
@[sl_canon] theorem dst19_0 (i : grid0.Coords) (h h') : hbM.slice (Rect.unit (s := S2048x6656) (k0_off19 i 0#32) S2048x256.size h) h' = dW 0 i := dW_of 0 i _ _ (off19_0 i)
@[sl_canon] theorem dst19_1 (i : grid0.Coords) (h h') : hbM.slice (Rect.unit (s := S2048x6656) (k0_off19 i 1024#32) S2048x256.size h) h' = dW 1 i := dW_of 1 i _ _ (off19_1024 i)
@[sl_canon] theorem dst19_2 (i : grid0.Coords) (h h') : hbM.slice (Rect.unit (s := S2048x6656) (k0_off19 i 2048#32) S2048x256.size h) h' = dW 2 i := dW_of 2 i _ _ (off19_2048 i)

/-- The elements of a row, and of a section's columns. -/
def sSet (p : Fin 3) : Finset S1x3x2048x256.Idx := (sR p).view.set
def dSet (p : Fin 3) (i : grid0.Coords) : Finset S2048x6656.Idx := (dW p i).view.set

theorem set_sR (p : Fin 3) (k : S1x3x2048x256.Idx) : k ∈ sSet p ↔ (k 1).val = p.val := by
  have e : sSet p = (Rect.unit (s := S1x3x2048x256) ![0, p.val, 0, 0] S1x1x2048x256.size (sOff_inb p)).set :=
    (View.set_reshape _ _).trans (View.set_slice_whole _ _)
  rw [e, Rect.mem_set_unit]
  have h0 := (k 0).isLt; have h1 := (k 1).isLt; have h2 := (k 2).isLt; have h3 := (k 3).isLt
  simp only [S1x3x2048x256, Matrix.cons_val_zero, Matrix.cons_val_one, Matrix.cons_val] at h0 h1 h2 h3
  constructor
  · intro h
    have := h 1
    simp only [S1x1x2048x256, Matrix.cons_val_zero, Matrix.cons_val_one, Matrix.cons_val] at this
    omega
  · intro h a
    fin_cases a <;> simp only [S1x1x2048x256, Fin.zero_eta, Fin.mk_one, Fin.reduceFinMk, Matrix.cons_val_zero, Matrix.cons_val_one, Matrix.cons_val] <;> omega

theorem set_dW (p : Fin 3) (i : grid0.Coords) (k : S2048x6656.Idx) :
    k ∈ dSet p i ↔ 1024 * p.val + 256 * (i 0).val ≤ (k 1).val ∧ (k 1).val < 1024 * p.val + 256 * (i 0).val + 256 := by
  have e : dSet p i = (Rect.unit (s := S2048x6656) ![0, 1024 * p.val + 256 * (i 0).val] S2048x256.size (dOff_inb p i)).set :=
    View.set_slice_whole _ _
  rw [e, Rect.mem_set_unit]
  have h0 : (k 0).val < 2048 := (k 0).isLt
  constructor
  · intro h
    exact h 1
  · intro h a
    fin_cases a
    · exact ⟨Nat.zero_le _, by show (k 0).val < 0 + 2048; omega⟩
    · exact h

theorem dW_disjoint (i : grid0.Coords) {p q : Fin 3} (h : p ≠ q) : Disjoint (dSet p i) (dSet q i) := by
  rw [Finset.disjoint_left]; intro k hp hq
  have := (set_dW p i k).1 hp; have := (set_dW q i k).1 hq
  have hi : (i 0).val < 4 := (i 0).isLt
  have : p.val ≠ q.val := fun e => h (Fin.ext e)
  omega
theorem sR_disjoint {p q : Fin 3} (h : p ≠ q) : Disjoint (sSet p) (sSet q) := by
  rw [Finset.disjoint_left]; intro k hp hq
  have := (set_sR p k).1 hp; have := (set_sR q k).1 hq
  have : p.val ≠ q.val := fun e => h (Fin.ext e)
  omega

/-- Three disjoint sets and what is left. -/
theorem split3 {ℓ : Loc nD τ sig} (A B C : Finset (Idx ℓ)) (hAB : Disjoint A B) (hAC : Disjoint A C) (hBC : Disjoint B C)
    (f : Buf (Elt F) ℓ) :
    (ℓ ↦{fullShare} f : sProp 𝕄) ⊣⊢ iprop((ℓ ↦[A]{fullShare} f) ∗ (ℓ ↦[B]{fullShare} f) ∗ (ℓ ↦[C]{fullShare} f)
      ∗ ℓ ↦[((Finset.univ \ A) \ B) \ C]{fullShare} f) := by
  have hB : B ⊆ Finset.univ \ A := fun x hx => Finset.mem_sdiff.2 ⟨Finset.mem_univ _, fun h => Finset.disjoint_left.1 hAB h hx⟩
  have hC : C ⊆ (Finset.univ \ A) \ B := fun x hx => Finset.mem_sdiff.2 ⟨Finset.mem_sdiff.2 ⟨Finset.mem_univ _,
    fun h => Finset.disjoint_left.1 hAC h hx⟩, fun h => Finset.disjoint_left.1 hBC h hx⟩
  have e1 := pointsTo_split_subset (Ix := Unit) (Name := ℕ) (U := Pipeline.UD sig nD τ) (Lvl := ℕ) (q := fullShare) (f := f) (Finset.subset_univ A)
  have e2 := pointsTo_split_subset (Ix := Unit) (Name := ℕ) (U := Pipeline.UD sig nD τ) (Lvl := ℕ) (q := fullShare) (f := f) hB
  have e3 := pointsTo_split_subset (Ix := Unit) (Name := ℕ) (U := Pipeline.UD sig nD τ) (Lvl := ℕ) (q := fullShare) (f := f) hC
  constructor
  · iintro H
    ihave H' := e1.1 $$ H; icases H' with ⟨HA, H⟩
    ihave H' := e2.1 $$ H; icases H' with ⟨HB, H⟩
    ihave H' := e3.1 $$ H; icases H' with ⟨HC, H⟩
    isplitl [HA]; · iexact HA
    isplitl [HB]; · iexact HB
    isplitl [HC]; · iexact HC
    iexact H
  · iintro ⟨HA, HB, HC, H⟩
    iapply e1.2; isplitl [HA]; · iexact HA
    iapply e2.2; isplitl [HB]; · iexact HB
    iapply e3.2; isplitl [HC]; · iexact HC
    iexact H

theorem rows_rest : ((Finset.univ \ (sSet 0)) \ (sSet 1)) \ (sSet 2) = ∅ := by
  refine Finset.eq_empty_of_forall_notMem fun k hk => ?_
  have h0 : k ∉ (sSet 0) := fun h => (Finset.mem_sdiff.1 (Finset.mem_sdiff.1 (Finset.mem_sdiff.1 hk).1).1).2 h
  have h1 : k ∉ (sSet 1) := fun h => (Finset.mem_sdiff.1 (Finset.mem_sdiff.1 hk).1).2 h
  have h2 : k ∉ (sSet 2) := fun h => (Finset.mem_sdiff.1 hk).2 h
  have e0 := mt (set_sR 0 k).2 h0; have e1 := mt (set_sR 1 k).2 h1; have e2 := mt (set_sR 2 k).2 h2
  have hk1 : (k 1).val < 3 := (k 1).isLt
  have e0' : (k 1).val ≠ 0 := e0
  have e1' : (k 1).val ≠ 1 := e1
  have e2' : (k 1).val ≠ 2 := e2
  omega

theorem rows_split (c : Dev nD) (f : Buf (Elt F) (scM.view.loc (c : Thread nD τ))) :
    (scM.view.loc (c : Thread nD τ) ↦[scM.view.set]{fullShare} f : sProp 𝕄) ⊣⊢
      iprop(((sR 0).view.loc (c : Thread nD τ) ↦[(sR 0).view.set]{fullShare} f) ∗ ((sR 1).view.loc (c : Thread nD τ) ↦[(sR 1).view.set]{fullShare} f)
        ∗ ((sR 2).view.loc (c : Thread nD τ) ↦[(sR 2).view.set]{fullShare} f)) := by
  have h := split3 (F := F) (ℓ := scM.view.loc (c : Thread nD τ)) (sSet 0) (sSet 1) (sSet 2)
    (sR_disjoint (by decide)) (sR_disjoint (by decide)) (sR_disjoint (by decide)) f
  rw [show ((Finset.univ \ sSet 0) \ sSet 1) \ sSet 2 = ∅ from rows_rest, pointsTo_empty] at h
  rw [show scM.view.set = Finset.univ from View.set_whole _]
  constructor
  · iintro H; ihave H' := h.1 $$ H; icases H' with ⟨H0, H1, H2, -⟩
    isplitl [H0]; · iexact H0
    isplitl [H1]; · iexact H1
    iexact H2
  · iintro ⟨H0, H1, H2⟩; iapply h.2
    isplitl [H0]; · iexact H0
    isplitl [H1]; · iexact H1
    isplitl [H2]; · iexact H2
    iempintro

/-! ## What one point computes, from the blocks it reads -/

section Tiles
variable (dy cb cc cx : Vec F S2048x256 .bf16) (w : Vec F S3x256 .f32)

/-- The gradient of `cc * cx`. -/
def duT : FVec F S2048x256 .f32 :=
  k0_pay14 (iota .tc S2048x256 32 [0] iota_S2048x256_d0_w32) w (k0_pay9 dy cb) (k0_pay10 w dy cb) (k0_pay11 w) k0_pay12 (k0_pay13 dy cb)
    (Scalar.ofBits .f32 0x00000000#32)
/-- The three column tiles of the gradient of the projection, and the tile of the filter's. -/
def tile0 : FVec F S2048x256 .bf16 := truncf .bf16 (mulf (k0_pay8 dy) (k0_pay7 cc cx w)) bitsLt_bf16_f32
def tile1 : FVec F S2048x256 .bf16 := truncf .bf16 (mulf (duT dy cb w) (k0_pay3 cx)) bitsLt_bf16_f32
def tile2 : FVec F S2048x256 .bf16 := truncf .bf16 (mulf (duT dy cb w) (k0_pay2 cc)) bitsLt_bf16_f32
def tileW : FVec F S3x256 .f32 := k0_pay1 (k0_pay4 cc cx) (k0_pay5 cc cx) (k0_pay6 cc cx) (k0_pay9 dy cb)
end Tiles

/-- A row of the scratch, read after the three stores. -/
theorem row_read (p : Fin 3) (f : scM.view.ty.Contents (Elt F)) (t : Fin 3 → FVec F S2048x256 .bf16)
    {o0 o1 o2 : Fin 4 → ℕ} (h0 h1 h2) (e0 : o0 = ![0, 0, 0, 0]) (e1 : o1 = ![0, 1, 0, 0]) (e2 : o2 = ![0, 2, 0, 0]) :
    (sR p).view.read (Elt F) (scM.view.writes (Elt F) f
      [⟨Rect.unit (s := S1x3x2048x256) o2 S1x1x2048x256.size h2, shapeCast S1x1x2048x256 (t 2) shapeCasts_S2048x256_S1x1x2048x256⟩,
       ⟨Rect.unit (s := S1x3x2048x256) o1 S1x1x2048x256.size h1, shapeCast S1x1x2048x256 (t 1) shapeCasts_S2048x256_S1x1x2048x256⟩,
       ⟨Rect.unit (s := S1x3x2048x256) o0 S1x1x2048x256.size h0, shapeCast S1x1x2048x256 (t 0) shapeCasts_S2048x256_S1x1x2048x256⟩]) = t p := by
  subst e0 e1 e2
  funext y
  obtain ⟨x, hx⟩ : ∃ x : S1x1x2048x256.Idx, x = Shape.reshapeEquiv squeezes_S1x1x2048x256_S2048x256.numel_eq y := ⟨_, rfl⟩
  have hy (p : Fin 3) : shapeCast S1x1x2048x256 (t p) shapeCasts_S2048x256_S1x1x2048x256 x = t p y := by
    rw [hx]; unfold shapeCast; rw [Shape.reshapeEquiv_reshapeEquiv, Shape.reshapeEquiv_self]
  rw [← hy p]
  show scM.view.read (Elt F) _ ((Rect.unit (s := S1x3x2048x256) ![0, p.val, 0, 0] S1x1x2048x256.size (sOff_inb p)).emb (Shape.reshapeEquiv squeezes_S1x1x2048x256_S2048x256.numel_eq y)) = _
  rw [← hx]
  have hc : ∀ a, (((Rect.unit (s := S1x3x2048x256) ![0, p.val, 0, 0] S1x1x2048x256.size (sOff_inb p)).emb x) a).val = (![0, p.val, 0, 0] : Fin 4 → ℕ) a + (x a).val :=
    fun a => by show _ + 1 * (x a).val = _; rw [Nat.one_mul]; rfl
  have hx1 : (x 1).val = 0 := by have : (x 1).val < 1 := (x 1).isLt; omega
  have h1 : (((Rect.unit (s := S1x3x2048x256) ![0, p.val, 0, 0] S1x1x2048x256.size (sOff_inb p)).emb x) 1).val = p.val := by
    rw [hc]; show p.val + (x 1).val = p.val; omega
  fin_cases p
  · rw [View.read_writes_cons_unit_of_not_mem scM.view f h2 _ _ _ rfl 1 (Or.inl (by rw [h1]; show 0 < 2; omega)),
      View.read_writes_cons_unit_of_not_mem scM.view f _ _ _ _ rfl 1 (Or.inl (by rw [h1]; show 0 < 1; omega))]
    exact View.read_writes_cons_unit_of_mem scM.view f h0 _ _ _ x rfl hc
  · rw [View.read_writes_cons_unit_of_not_mem scM.view f h2 _ _ _ rfl 1 (Or.inl (by rw [h1]; show 1 < 2; omega))]
    exact View.read_writes_cons_unit_of_mem scM.view f _ _ _ _ x rfl hc
  · exact View.read_writes_cons_unit_of_mem scM.view f h2 _ _ _ x rfl hc

/-- The contents of a column window, by the tile it was written with. -/
theorem dW_pts (c : Dev nD) (p : Fin 3) (i : grid0.Coords) (fd : Buf (Elt F) (hbM.view.loc (c : Thread nD τ))) {w w' : FVec F S2048x256 .bf16} (e : w = w') :
    (((dW p i).view.loc (c : Thread nD τ) ↦[(dW p i).view.set]{fullShare} ((dW p i).view.writes (Elt F) fd [⟨Rect.whole S2048x256, w⟩]) : sProp 𝕄)) ⊢
      ((dW p i).view.loc (c : Thread nD τ) ↦[(dW p i).view.set]{fullShare} ((dW p i).view.writes (Elt F) fd [⟨Rect.whole S2048x256, w'⟩])) := by
  rw [e]

/-- The body at a point: from the blocks at hand, the filter's tile in its block and the three column tiles in their sections. -/
theorem run0 (c : Dev nD) (i : grid0.Coords)
    (a1 : Memref sig .tc .vmem S2048x256 .bf16) (h1 : a1.IsWhole) (a2 : Memref sig .tc .vmem S2048x256 .bf16) (h2 : a2.IsWhole)
    (a3 : Memref sig .tc .vmem S2048x256 .bf16) (h3 : a3.IsWhole) (a4 : Memref sig .tc .vmem S2048x256 .bf16) (h4 : a4.IsWhole)
    (a5 : Memref sig .tc .vmem S3x256 .f32) (h5 : a5.IsWhole) (a8 : Memref sig .tc .vmem S3x256 .f32) (h8 : a8.IsWhole)
    (f1 : Buf (Elt F) (a1.view.loc (c : Thread nD τ))) (f2 : Buf (Elt F) (a2.view.loc (c : Thread nD τ)))
    (f3 : Buf (Elt F) (a3.view.loc (c : Thread nD τ))) (f4 : Buf (Elt F) (a4.view.loc (c : Thread nD τ)))
    (f5 : Buf (Elt F) (a5.view.loc (c : Thread nD τ))) (f8 : Buf (Elt F) (a8.view.loc (c : Thread nD τ)))
    (fs : Buf (Elt F) (scM.view.loc (c : Thread nD τ))) (fd : Buf (Elt F) (hbM.view.loc (c : Thread nD τ)))
    (X1 : Vec F S2048x256 .bf16) (r1 : a1.view.readAt (Elt F) (Rect.unit (s := S2048x256) ![0, 0] S2048x256.size inb_S2048x256_S2048x256_0_0).toLoadRect f1 = X1)
    (X2 : Vec F S2048x256 .bf16) (r2 : a2.view.readAt (Elt F) (Rect.unit (s := S2048x256) ![0, 0] S2048x256.size inb_S2048x256_S2048x256_0_0).toLoadRect f2 = X2)
    (X3 : Vec F S2048x256 .bf16) (r3 : a3.view.readAt (Elt F) (Rect.unit (s := S2048x256) ![0, 0] S2048x256.size inb_S2048x256_S2048x256_0_0).toLoadRect f3 = X3)
    (X4 : Vec F S2048x256 .bf16) (r4 : a4.view.readAt (Elt F) (Rect.unit (s := S2048x256) ![0, 0] S2048x256.size inb_S2048x256_S2048x256_0_0).toLoadRect f4 = X4)
    (X5 : Vec F S3x256 .f32) (r5 : a5.view.readAt (Elt F) (Rect.unit (s := S3x256) ![0, 0] S3x256.size inb_S3x256_S3x256_0_0).toLoadRect f5 = X5)
    (W : Waits sig Unit) (K : PUnit → sProp 𝕄) :
    iprop((a1.view.loc (c : Thread nD τ) ↦[a1.view.set]{fullShare} f1) ∗ (a2.view.loc (c : Thread nD τ) ↦[a2.view.set]{fullShare} f2)
      ∗ (a3.view.loc (c : Thread nD τ) ↦[a3.view.set]{fullShare} f3) ∗ (a4.view.loc (c : Thread nD τ) ↦[a4.view.set]{fullShare} f4)
      ∗ (a5.view.loc (c : Thread nD τ) ↦[a5.view.set]{fullShare} f5) ∗ (a8.view.loc (c : Thread nD τ) ↦[a8.view.set]{fullShare} f8)
      ∗ (scM.view.loc (c : Thread nD τ) ↦[scM.view.set]{fullShare} fs) ∗ ((dW 0 i).view.loc (c : Thread nD τ) ↦[(dW 0 i).view.set]{fullShare} fd)
      ∗ ((dW 1 i).view.loc (c : Thread nD τ) ↦[(dW 1 i).view.set]{fullShare} fd) ∗ ((dW 2 i).view.loc (c : Thread nD τ) ↦[(dW 2 i).view.set]{fullShare} fd)
      ∗ semVal ((c : Thread nD τ), SemLoc.dma (csm 0).sem) 0 ∗ semVal ((c : Thread nD τ), SemLoc.dma (csm 1).sem) 0 ∗ semVal ((c : Thread nD τ), SemLoc.dma (csm 2).sem) 0
      ∗ owes (c : Thread nD τ) 0 W
      ∗ (iprop((a1.view.loc (c : Thread nD τ) ↦[a1.view.set]{fullShare} f1) ∗ (a2.view.loc (c : Thread nD τ) ↦[a2.view.set]{fullShare} f2)
          ∗ (a3.view.loc (c : Thread nD τ) ↦[a3.view.set]{fullShare} f3) ∗ (a4.view.loc (c : Thread nD τ) ↦[a4.view.set]{fullShare} f4)
          ∗ (a5.view.loc (c : Thread nD τ) ↦[a5.view.set]{fullShare} f5)
          ∗ (a8.view.loc (c : Thread nD τ) ↦[a8.view.set]{fullShare} a8.view.writes (Elt F) f8
              [⟨Rect.unit (s := S3x256) ![0, 0] S3x256.size inb_S3x256_S3x256_0_0, tileW X1 X2 X3 X4⟩])
          ∗ (∃ f, scM.view.loc (c : Thread nD τ) ↦[scM.view.set]{fullShare} f)
          ∗ ((dW 0 i).view.loc (c : Thread nD τ) ↦[(dW 0 i).view.set]{fullShare} (dW 0 i).view.writes (Elt F) fd [⟨Rect.whole S2048x256, tile0 X1 X3 X4 X5⟩])
          ∗ ((dW 1 i).view.loc (c : Thread nD τ) ↦[(dW 1 i).view.set]{fullShare} (dW 1 i).view.writes (Elt F) fd [⟨Rect.whole S2048x256, tile1 X1 X2 X4 X5⟩])
          ∗ ((dW 2 i).view.loc (c : Thread nD τ) ↦[(dW 2 i).view.set]{fullShare} (dW 2 i).view.writes (Elt F) fd [⟨Rect.whole S2048x256, tile2 X1 X2 X3 X5⟩])
          ∗ semVal ((c : Thread nD τ), SemLoc.dma (csm 0).sem) 0 ∗ semVal ((c : Thread nD τ), SemLoc.dma (csm 1).sem) 0 ∗ semVal ((c : Thread nD τ), SemLoc.dma (csm 2).sem) 0
          ∗ (∃ W', owes (c : Thread nD τ) 0 W')) -∗ K ⟨⟩))
    ⊢ wp frame (wpE (defs₀ (F := F)) Variants.none c none) Set.univ
        (cc0_conv_bwd i a1 h1 a2 h2 a3 h3 a4 h4 a5 h5 hbM (Memref.isWhole_whole _) hbM (Memref.isWhole_whole _) a8 h8
          scM (Memref.isWhole_whole _) cc0_scratch1) K := by
  have hn := dec1 i
  have hp := dec2 i
  rw [cc0_conv_bwd_eq_skeleton]; unfold cc0_conv_bwd_skel
  iintro ⟨H1, H2, H3, H4, H5, H8, HS, HD0, HD1, HD2, Hq0, Hq1, Hq2, HW, Hk⟩
  sl_exec
  ihave HS' := (rows_split c _).1 $$ HS
  icases HS' with ⟨HR0, HR1, HR2⟩
  sl_exec
  sl_step
  iapply Hk
  isplitl [H1]; · iexact H1
  isplitl [H2]; · iexact H2
  isplitl [H3]; · iexact H3
  isplitl [H4]; · iexact H4
  isplitl [H5]; · iexact H5
  isplitl [H8]; · iexact H8
  isplitl [HR0 HR1 HR2]
  · iexists _
    iapply (rows_split c _).2
    isplitl [HR0]; · iexact HR0
    isplitl [HR1]; · iexact HR1
    iexact HR2
  isplitl [HD0]
  · have L := row_read 0 fs ![tile0 X1 X3 X4 X5, tile1 X1 X2 X4 X5, tile2 X1 X2 X3 X5] (k0_off8_inb i) (k0_off9_inb i) (k0_off10_inb i) (off8_eq i) (off9_eq i) (off10_eq i)
    iapply (dW_pts c 0 i fd L)
    subst r1 r2 r3 r4 r5
    iexact HD0
  isplitl [HD1]
  · have L := row_read 1 fs ![tile0 X1 X3 X4 X5, tile1 X1 X2 X4 X5, tile2 X1 X2 X3 X5] (k0_off8_inb i) (k0_off9_inb i) (k0_off10_inb i) (off8_eq i) (off9_eq i) (off10_eq i)
    iapply (dW_pts c 1 i fd L)
    subst r1 r2 r3 r4 r5
    iexact HD1
  isplitl [HD2]
  · have L := row_read 2 fs ![tile0 X1 X3 X4 X5, tile1 X1 X2 X4 X5, tile2 X1 X2 X3 X5] (k0_off8_inb i) (k0_off9_inb i) (k0_off10_inb i) (off8_eq i) (off9_eq i) (off10_eq i)
    iapply (dW_pts c 2 i fd L)
    subst r1 r2 r3 r4 r5
    iexact HD2
  isplitl [Hq0]; · iexact Hq0
  isplitl [Hq1]; · iexact Hq1
  isplitl [Hq2]; · iexact Hq2
  iexists _; iexact HW

end Cert.KernelIdeal.Conv

end
-- ==== Proof.ConvFrame.lean ====
/-
  The gated convolution's gradient: the run of the whole program. Its four points write, between them, the first 3072
  columns of the projection's gradient by the body's own copies and the filter's gradient by the pipeline.
-/
module

public import proofs.«01_k».proof.Proof.ConvBody
public import proofs.«01_k».proof.Proof.Gen.KernelIdeal.Frame
public import Idealize.ShloMosaic.Lib.VecWindow
public import Idealize.ShloMosaic.Lib.Pointwise.Index

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the copies leave -/

/-- The projection's gradient after point `i` over the contents `f`: in each of the three sections, the point's columns at
    its tile `T p`. -/
def dNext (i : grid0.Coords) (f : FVec F S2048x6656 .bf16) (T : Fin 3 → FVec F S2048x256 .bf16) : FVec F S2048x6656 .bf16 := fun k =>
  if h : (k 1).val < 3072 ∧ 256 * (i 0).val ≤ (k 1).val % 1024 ∧ (k 1).val % 1024 < 256 * (i 0).val + 256 then
    T ⟨(k 1).val / 1024, by omega⟩ (ix2 ⟨(k 0).val, (k 0).isLt⟩ ⟨(k 1).val % 1024 - 256 * (i 0).val, by omega⟩)
  else f k

theorem dNext_in (i : grid0.Coords) (f : FVec F S2048x6656 .bf16) (T : Fin 3 → FVec F S2048x256 .bf16) (p : Fin 3) (y : S2048x256.Idx)
    (k : S2048x6656.Idx) (h0 : (k 0).val = (y 0).val) (h1 : (k 1).val = 1024 * p.val + 256 * (i 0).val + (y 1).val) :
    dNext i f T k = T p y := by
  have hi : (i 0).val < 4 := (i 0).isLt
  have hy : (y 1).val < 256 := (y 1).isLt
  have hp := p.isLt
  have hm : (k 1).val % 1024 = 256 * (i 0).val + (y 1).val := by omega
  have hd : (k 1).val / 1024 = p.val := by omega
  unfold dNext
  rw [dif_pos ⟨by omega, by omega, by omega⟩]
  have e1 : (⟨(k 1).val / 1024, by omega⟩ : Fin 3) = p := Fin.ext hd
  rw [e1]
  congr 1
  funext a
  fin_cases a
  · exact Fin.ext h0
  · refine Fin.ext ?_
    show (k 1).val % 1024 - 256 * (i 0).val = (y 1).val
    omega

theorem dNext_out (i : grid0.Coords) (f : FVec F S2048x6656 .bf16) (T : Fin 3 → FVec F S2048x256 .bf16)
    (k : S2048x6656.Idx) (h : ¬ ((k 1).val < 3072 ∧ 256 * (i 0).val ≤ (k 1).val % 1024 ∧ (k 1).val % 1024 < 256 * (i 0).val + 256)) :
    dNext i f T k = f k := dif_neg h

theorem emb_dW (i : grid0.Coords) (p : Fin 3) (y : S2048x256.Idx) (a : Fin 2) :
    (((dW p i).view.emb y : S2048x6656.Idx) a).val = (![0, 1024 * p.val + 256 * (i 0).val] : Fin 2 → ℕ) a + 1 * (y a).val := rfl

theorem dW_read (i : grid0.Coords) (p : Fin 3) (g : FVec F S2048x6656 .bf16) (y : S2048x256.Idx) :
    (dW p i).view.read (Elt F) g y = g ((dW p i).view.emb y : S2048x6656.Idx) := rfl

/-- A window written whole with the tile is, on its own elements, `dNext`. -/
theorem dW_agree (i : grid0.Coords) (p : Fin 3) (f : FVec F S2048x6656 .bf16) (T : Fin 3 → FVec F S2048x256 .bf16) :
    ∀ k ∈ dSet p i, ((dW p i).view.writes (Elt F) f [⟨Rect.whole S2048x256, T p⟩] : FVec F S2048x6656 .bf16) k = dNext i f T k := by
  intro k hk
  obtain ⟨y, -, hy⟩ := Finset.mem_map.1 hk
  have e := congrFun (View.read_writes_whole (Val := Elt F) (dW p i).view f (T p)) y
  generalize ((dW p i).view.writes (Elt F) f [⟨Rect.whole S2048x256, T p⟩]) = g at e ⊢
  have e' := (dW_read i p g y).symm.trans e
  have hy' : ((dW p i).view.emb y : S2048x6656.Idx) = k := hy
  rw [hy'] at e'
  have h0 := emb_dW i p y 0
  have h1 := emb_dW i p y 1
  rw [hy'] at h0 h1
  refine e'.trans (dNext_in i f T p y k (h0.trans ?_) (h1.trans ?_)).symm
  · simp only [Matrix.cons_val_zero]; omega
  · simp only [Matrix.cons_val_one]; rw [Nat.one_mul]; rfl

/-! ## The proof data -/

section Data
variable (c : Dev nD) (t : Fin cfg0.N)
abbrev inDy : FVec F S2048x256 .bf16 := iblk m c 0 t
abbrev inCb : FVec F S2048x256 .bf16 := iblk m c 1 t
abbrev inCc : FVec F S2048x256 .bf16 := iblk m c 2 t
abbrev inCx : FVec F S2048x256 .bf16 := iblk m c 3 t
abbrev inW : FVec F S3x256 .f32 := iblk m c 4 t
/-- The three column tiles at point `t`, and the filter's. -/
def tiles : Fin 3 → FVec F S2048x256 .bf16 :=
  ![tile0 (inDy m c t) (inCc m c t) (inCx m c t) (inW m c t), tile1 (inDy m c t) (inCb m c t) (inCx m c t) (inW m c t),
    tile2 (inDy m c t) (inCb m c t) (inCc m c t) (inW m c t)]
def tilesW : FVec F S3x256 .f32 := tileW (inDy m c t) (inCb m c t) (inCc m c t) (inCx m c t)
end Data

/-- The projection's gradient before the point numbered `n`. -/
def dprojAt (c : Dev nD) : ℕ → FVec F S2048x6656 .bf16
  | 0 => V m c main_v0_0
  | n + 1 => if h : n < cfg0.N then dNext (grid0.coords ⟨n, h⟩) (dprojAt c n) (tiles m c ⟨n, h⟩) else dprojAt c n

theorem dprojAt_succ (c : Dev nD) (t : Fin cfg0.N) :
    dprojAt m c t.succ.val = dNext (grid0.coords t) (dprojAt m c t.castSucc.val) (tiles m c t) := by
  show dprojAt m c (t.val + 1) = _
  rw [dprojAt, dif_pos t.isLt]; rfl

/-- The buffers at that moment: the projection's gradient there, the rest as the region found them. -/
def Gat (c : Dev nD) (n : ℕ) : (b : Ref sig .tc) → Buf (Elt F) ((c : Thread nD τ).loc b) :=
  Function.update (V m c) main_v0_0 (dprojAt m c n)
theorem Gat_self (c : Dev nD) (n : ℕ) : Gat m c n main_v0_0 = dprojAt m c n := Function.update_self ..
theorem Gat_zero (c : Dev nD) : Gat m c 0 = V m c := Function.update_eq_self ..

abbrev osem0 : Fin 3 → SemLoc sig := fun j => (![SemLoc.dma 12, SemLoc.dma 13, SemLoc.dma 14] : Fin 3 → SemLoc sig) j
theorem ownSemFacts0 : Pipeline.OwnSemFacts spec0 osem0 := by decide
def H0 : Finset (Ref sig .tc) := ∅
def R0 : Finset (Ref sig .tc) := {main_v0_0}
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (csm 0).sem) 0 ∗ semVal ((c : Thread nD τ), SemLoc.dma (csm 1).sem) 0
          ∗ semVal ((c : Thread nD τ), SemLoc.dma (csm 2).sem) 0) := by
  rw [Pipeline.ownSems0_eq_of_list c osem0 [0, 1, 2] (by decide) (by decide)]; rfl

/-- The invariant between points: the scratch at some contents, the generator register, the three cells at zero, and the
    projection's gradient at what the points so far left. -/
theorem Phi_eq (c : Dev nD) (n : ℕ) :
    (Pipeline.ΦDRG osem0 spec0 H0 R0 (V m) (fun c => Gat m c n) c : sProp 𝕄)
      = iprop((∃ f : Buf (Elt F) ((c : Thread nD τ).loc cc0_scratch0), ((c : Thread nD τ).loc cc0_scratch0) ↦{fullShare} f)
          ∗ (∃ r, prngReg c r)
          ∗ iprop(semVal ((c : Thread nD τ), SemLoc.dma (csm 0).sem) 0 ∗ semVal ((c : Thread nD τ), SemLoc.dma (csm 1).sem) 0
              ∗ semVal ((c : Thread nD τ), SemLoc.dma (csm 2).sem) 0)
          ∗ emp ∗ (hbM.view.loc (c : Thread nD τ) ↦{fullShare} dprojAt m c n)) := by
  rw [Pipeline.ΦDRG_eq, scopedRest0_eq, ownSems00_eq, show R0 = {main_v0_0} from rfl, Pipeline.routed_singleton, Gat_self,
    show H0 = ∅ from rfl, BI.bigSep_empty]
  rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tilesW m c t
  Φ p := Pipeline.ΦDRG osem0 spec0 H0 R0 (V m) (fun c => Gat m c p.val) c
  q := Pipeline.shareOf spec0
  owed _ := 0

theorem A_eq (c : Dev nD) (w : Fin cfg0.W) : (dats m 0 c).A w = V m c (Pipeline.arrRef spec0 w) := by dsimp only [dats]

section Before
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = tilesW m c t := by dsimp only [dats]
theorem before0_0 (d) : (dats m 0 c).before 0 t d = iblk m c 0 t :=
  ((dats m 0 c).before_in_eq_fetched 0 rfl (fun _ => rfl) (fun _ _ _ => rfl) (fun t => by rw [after0_0]; rfl) t d).trans rfl
theorem before0_1 (d) : (dats m 0 c).before 1 t d = iblk m c 1 t :=
  ((dats m 0 c).before_in_eq_fetched 1 rfl (fun _ => rfl) (fun _ _ _ => rfl) (fun t => by rw [after0_1]; rfl) t d).trans rfl
theorem before0_2 (d) : (dats m 0 c).before 2 t d = iblk m c 2 t :=
  ((dats m 0 c).before_in_eq_fetched 2 rfl (fun _ => rfl) (fun _ _ _ => rfl) (fun t => by rw [after0_2]; rfl) t d).trans rfl
theorem before0_3 (d) : (dats m 0 c).before 3 t d = iblk m c 3 t :=
  ((dats m 0 c).before_in_eq_fetched 3 rfl (fun _ => rfl) (fun _ _ _ => rfl) (fun t => by rw [after0_3]; rfl) t d).trans rfl
theorem before0_4 (d) : (dats m 0 c).before 4 t d = iblk m c 4 t :=
  ((dats m 0 c).before_in_eq_fetched 4 rfl (fun _ => rfl) (fun _ _ _ => rfl) (fun t => by rw [after0_4]; rfl) t d).trans rfl
end Before

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The three written windows and the rest of the projection's gradient make it up whole, after the point. -/
theorem join (c : Dev nD) (i : grid0.Coords) (f : FVec F S2048x6656 .bf16) (T : Fin 3 → FVec F S2048x256 .bf16) :
    iprop(((dW 0 i).view.loc (c : Thread nD τ) ↦[(dW 0 i).view.set]{fullShare} (dW 0 i).view.writes (Elt F) f [⟨Rect.whole S2048x256, T 0⟩])
      ∗ ((dW 1 i).view.loc (c : Thread nD τ) ↦[(dW 1 i).view.set]{fullShare} (dW 1 i).view.writes (Elt F) f [⟨Rect.whole S2048x256, T 1⟩])
      ∗ ((dW 2 i).view.loc (c : Thread nD τ) ↦[(dW 2 i).view.set]{fullShare} (dW 2 i).view.writes (Elt F) f [⟨Rect.whole S2048x256, T 2⟩])
      ∗ (hbM.view.loc (c : Thread nD τ) ↦[((Finset.univ \ dSet 0 i) \ dSet 1 i) \ dSet 2 i]{fullShare} f))
    ⊢ (hbM.view.loc (c : Thread nD τ) ↦{fullShare} dNext i f T : sProp 𝕄) := by
  have hs := split3 (F := F) (ℓ := hbM.view.loc (c : Thread nD τ)) (dSet 0 i) (dSet 1 i) (dSet 2 i)
    (dW_disjoint i (by decide)) (dW_disjoint i (by decide)) (dW_disjoint i (by decide)) (dNext i f T)
  have hp (p : Fin 3) : (hbM.view.loc (c : Thread nD τ) ↦[dSet p i]{fullShare} ((dW p i).view.writes (Elt F) f [⟨Rect.whole S2048x256, T p⟩] : FVec F S2048x6656 .bf16) : sProp 𝕄)
      = (hbM.view.loc (c : Thread nD τ) ↦[dSet p i]{fullShare} dNext i f T) := pointsTo_congr (dW_agree i p f T)
  have hr : (hbM.view.loc (c : Thread nD τ) ↦[((Finset.univ \ dSet 0 i) \ dSet 1 i) \ dSet 2 i]{fullShare} f : sProp 𝕄)
      = (hbM.view.loc (c : Thread nD τ) ↦[((Finset.univ \ dSet 0 i) \ dSet 1 i) \ dSet 2 i]{fullShare} dNext i f T) := pointsTo_congr fun k hk => by
    have hi : (i 0).val < 4 := (i 0).isLt
    have h2 := mt (set_dW 2 i k).2 (Finset.mem_sdiff.1 hk).2
    have h1 := mt (set_dW 1 i k).2 (Finset.mem_sdiff.1 (Finset.mem_sdiff.1 hk).1).2
    have h0 := mt (set_dW 0 i k).2 (Finset.mem_sdiff.1 (Finset.mem_sdiff.1 (Finset.mem_sdiff.1 hk).1).1).2
    simp only [Fin.isValue, Fin.val_zero, Fin.val_one, Fin.val_two] at h0 h1 h2
    exact (dNext_out i f T k (by omega)).symm
  iintro ⟨H0, H1, H2, H⟩
  iapply hs.2
  isplitl [H0]; · iapply (Entails.of_eq (hp 0)); iexact H0
  isplitl [H1]; · iapply (Entails.of_eq (hp 1)); iexact H1
  isplitl [H2]; · iapply (Entails.of_eq (hp 2)); iexact H2
  iapply (Entails.of_eq hr); iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦDRG osem0 spec0 H0 R0 (V m) (fun c => Gat m c t.succ.val) c from rfl,
    show (dats m 0 c).Φ t.castSucc = Pipeline.ΦDRG osem0 spec0 H0 R0 (V m) (fun c => Gat m c t.castSucc.val) c from rfl,
    Phi_eq, Phi_eq, dprojAt_succ, after0_0, after0_1, after0_2, after0_3, after0_4, after0_5]
  simp only [before0_0, before0_1, before0_2, before0_3, before0_4]
  unfold Dat.owesAt Pipeline.owesWithin
  rw [show (dats m 0 c).owed t.castSucc = 0 from rfl, show (dats m 0 c).owed t.succ = 0 from rfl]
  unfold owns
  generalize dprojAt m c t.castSucc.val = fd
  have hs := split3 (F := F) (ℓ := hbM.view.loc (c : Thread nD τ)) (dSet 0 (grid0.coords t)) (dSet 1 (grid0.coords t)) (dSet 2 (grid0.coords t))
    (dW_disjoint _ (by decide)) (dW_disjoint _ (by decide)) (dW_disjoint _ (by decide)) fd
  iintro ⟨⟨⟨%fs, HS⟩, Hg, ⟨Hq0, Hq1, Hq2⟩, -, HD⟩, ⟨%W, -, HW⟩, ⟨%d0, %f0, %e0, H0⟩, ⟨%d1, %f1, %e1, H1⟩, ⟨%d2, %f2, %e2, H2⟩,
    ⟨%d3, %f3, %e3, H3⟩, ⟨%d4, %f4, %e4, H4⟩, ⟨%d5, %f5, -, H5⟩⟩
  ihave HD' := hs.1 $$ HD
  icases HD' with ⟨HD0, HD1, HD2, HDr⟩
  iapply (run0 c (grid0.coords t) (st0_0 t) _ (st0_1 t) _ (st0_2 t) _ (st0_3 t) _ (st0_4 t) _ (st0_5 t) _ f0 f1 f2 f3 f4 f5 fs fd
    (inDy m c t) ((View.readAt_full ..).trans e0) (inCb m c t) ((View.readAt_full ..).trans e1) (inCc m c t) ((View.readAt_full ..).trans e2)
    (inCx m c t) ((View.readAt_full ..).trans e3) (inW m c t) ((View.readAt_full ..).trans e4) W _)
  isplitl [H0]; · iexact H0
  isplitl [H1]; · iexact H1
  isplitl [H2]; · iexact H2
  isplitl [H3]; · iexact H3
  isplitl [H4]; · iexact H4
  isplitl [H5]; · iexact H5
  isplitl [HS]; · rw [show scM.view.set = Finset.univ from View.set_whole _]; iexact HS
  isplitl [HD0]; · iexact HD0
  isplitl [HD1]; · iexact HD1
  isplitl [HD2]; · iexact HD2
  isplitl [Hq0]; · iexact Hq0
  isplitl [Hq1]; · iexact Hq1
  isplitl [Hq2]; · iexact Hq2
  isplitl [HW]; · iexact HW
  iintro ⟨H0, H1, H2, H3, H4, H5, ⟨%fs', HS⟩, HD0, HD1, HD2, Hq0, Hq1, Hq2, ⟨%W', HW⟩⟩
  isplitl [HS Hg Hq0 Hq1 Hq2 HD0 HD1 HD2 HDr]
  · isplitl [HS]
    · iexists fs'; rw [show scM.view.set = Finset.univ from View.set_whole _]; iexact HS
    isplitl [Hg]; · iexact Hg
    isplitl [Hq0 Hq1 Hq2]
    · isplitl [Hq0]; · iexact Hq0
      isplitl [Hq1]; · iexact Hq1
      iexact Hq2
    isplitr; · iempintro
    iapply (join c (grid0.coords t) fd (tiles m c t))
    isplitl [HD0]; · iexact HD0
    isplitl [HD1]; · iexact HD1
    isplitl [HD2]; · iexact HD2
    iexact HDr
  isplitl [HW]
  · iexists W'; isplitr; · ipureintro; exact fun _ _ => Or.inl trivial
    iexact HW
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _; isplitr
  swap; · iexact H5
  ipureintro; exact View.read_writes_full ..

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.FramePostRG cfgs (dats m) 0 R0 (V m) (fun c => Gat m c 4) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmainD m Variants.none) (hA := A_eq m) (G := fun c => Gat m c 4)
    (hin := fun c => Entails.of_eq (by
      show _ = Pipeline.ΦDRG osem0 spec0 H0 R0 (V m) (fun c => Gat m c 0) c
      rw [show (fun c => Gat m c 0) = V m from funext fun c => Gat_zero m c]))
    (hout := fun c => Entails.of_eq (by
      show Pipeline.ΦDRG osem0 spec0 H0 R0 (V m) (fun c => Gat m c cfg0.N) c = _
      rw [show cfg0.N = 4 from N_0]))

/-- The arguments end as launched. -/
theorem frame_of_run (P : PUnit × MemSt nD τ sig (Elt F) → Prop)
    (hP : ∀ r, Pipeline.FramePostRG cfgs (dats m) 0 R0 (V m) (fun c => Gat m c 4) r → P r) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) ∧ P r) :=
  (θ_run defs _ _).mono (fun _ h => ⟨⟨fun c => ⟨((h.1.1 c).1 0).trans (((dats m 0 c).arrAt_in 0 rfl _).trans ((A_eq m c 0).trans (V_main_arg0 m c))),
      ((h.1.1 c).1 3).trans (((dats m 0 c).arrAt_in 3 rfl _).trans ((A_eq m c 3).trans (V_main_arg1 m c))),
      ((h.1.1 c).1 4).trans (((dats m 0 c).arrAt_in 4 rfl _).trans ((A_eq m c 4).trans (V_main_arg2 m c))),
      ((h.1.1 c).2 main_arg3 (Finset.mem_sdiff.mpr ⟨Pipeline.mem_restRefs_of main_arg3 (by decide) (by decide), by decide⟩)).trans (V_main_arg3 m c)⟩,
      h.2⟩, hP _ h.1⟩) (run_main m ρ)

end Cert.KernelIdeal.Conv

end
-- ==== Proof.ConvSpec.lean ====
/-
  The gated convolution's gradient on one column, as plain scalar formulas, and the kernel's tiles read at an index.
-/
module

public import proofs.«01_k».proof.Proof.ConvBody
public import Idealize.ShloMosaic.Lib.Pointwise

@[expose] public section

set_option maxRecDepth 16384

noncomputable section

namespace Cert.Conv

open Idealize.ShloMosaic Idealize.ShloMosaic.WordCmp

/-- `f` moved `k` rows down, zero above. -/
def past (k : ℕ) (f : Fin 2048 → EReal) (r : Fin 2048) : EReal := if k ≤ r.val then f ⟨r.val - k, by omega⟩ else 0
/-- `f` moved `k` rows up, zero below. -/
def ahead (k : ℕ) (f : Fin 2048 → EReal) (r : Fin 2048) : EReal := if h : r.val + k < 2048 then f ⟨r.val + k, h⟩ else 0

theorem past_zero (f : Fin 2048 → EReal) (r : Fin 2048) : past 0 f r = f r := if_pos (Nat.zero_le _)

/-- One column: the incoming gradient `a`, the three parts of the projection `b`, `c`, `x`, the filter's taps `w`. -/
structure Col where
  a : Fin 2048 → EReal
  b : Fin 2048 → EReal
  c : Fin 2048 → EReal
  x : Fin 2048 → EReal
  w : Fin 3 → EReal

variable (C : Col)
def Col.u (r : Fin 2048) : EReal := C.c r * C.x r
def Col.d (r : Fin 2048) : EReal := C.a r * C.b r
/-- The convolution of `u`, and the gradient that reaches `u`. -/
def Col.conv (r : Fin 2048) : EReal := C.w 0 * past 2 C.u r + C.w 1 * past 1 C.u r + C.w 2 * C.u r
def Col.du (r : Fin 2048) : EReal := C.w 2 * C.d r + C.w 1 * ahead 1 C.d r + C.w 0 * ahead 2 C.d r
/-- The three parts of the projection's gradient, and the filter's. -/
def Col.grad : Fin 3 → Fin 2048 → EReal := ![fun r => C.a r * C.conv r, fun r => C.du r * C.x r, fun r => C.du r * C.c r]
def Col.dw (k : Fin 3) : EReal := ∑ r, C.d r * past (2 - k.val) C.u r

end Cert.Conv

namespace Cert.KernelIdeal.Conv

open Cert.Conv Cert.KernelIdeal Cert.KernelIdeal.Gen
open Idealize.ShloMosaic Idealize.ShloMosaic.WordCmp

variable (dy cb cc cx : FVec Ideal S2048x256 .bf16) (w : FVec Ideal S3x256 .f32)

/-- The column of a point's blocks. -/
def blkCol (l : Fin 256) : Col where
  a r := dy (ix2 r l)
  b r := cb (ix2 r l)
  c r := cc (ix2 r l)
  x r := cx (ix2 r l)
  w k := w (ix2 k l)

theorem select_slt {k : ℕ} (hk : k < 2048) (r : Fin 2048) (a b : EReal) :
    Scalar.select (IntOp.cmpi .slt (BitVec.ofNat 32 r.val) (BitVec.ofNat 32 k)) a b = if r.val < k then a else b := by
  rw [cmpi_slt_ofNat (by omega) (by omega)]
  by_cases h : r.val < k <;> simp [Scalar.select, h]

theorem select_sge {k : ℕ} (hk : k < 2048) (r : Fin 2048) (a b : EReal) :
    Scalar.select (IntOp.cmpi .sge (BitVec.ofNat 32 r.val) (BitVec.ofNat 32 k)) a b = if k ≤ r.val then a else b := by
  rw [cmpi_sge_ofNat (by omega) (by omega)]
  by_cases h : k ≤ r.val <;> simp [Scalar.select, h]

/-- A product moved down or up under its mask is the product moved with zeros. -/
theorem mask_past {k : ℕ} (hk : k < 2048) (f : Fin 2048 → EReal) (r : Fin 2048) (z : EReal) :
    (if k ≤ r.val then z * f ⟨(r.val + 2048 - k) % 2048, Nat.mod_lt _ (by omega)⟩ else 0) = z * past k f r := by
  unfold past
  by_cases h : k ≤ r.val
  · rw [if_pos h, if_pos h]; congr 2; exact Fin.ext (by show (r.val + 2048 - k) % 2048 = r.val - k; omega)
  · rw [if_neg h, if_neg h, mul_zero]

theorem mask_ahead {k : ℕ} (hk : k ≤ 2048) (h0 : 0 < k) (f : Fin 2048 → EReal) (r : Fin 2048) (z : EReal) :
    (if r.val < k then z * f ⟨(r.val + 2048 - k) % 2048, Nat.mod_lt _ (by omega)⟩ else 0) = z * ahead (2048 - k) f r := by
  unfold ahead
  by_cases h : r.val < k
  · rw [if_pos h, dif_pos (by omega)]; congr 2; exact Fin.ext (by show (r.val + 2048 - k) % 2048 = r.val + (2048 - k); omega)
  · rw [if_neg h, dif_neg (by omega), mul_zero]

theorem tile0_apply (r : Fin 2048) (l : Fin 256) : (tile0 (F := Ideal) dy cc cx w (ix2 r l) : EReal) = (blkCol dy cb cc cx w l).grad 0 r := by
  pointwise [tile0, k0_pay8, k0_pay7, k0_pay6, k0_pay5, k0_pay4, k0_pay2, k0_pay3]
  rw [select_sge (by omega), select_sge (by omega)]
  exact congrArg (dy (ix2 r l) * · : EReal → EReal) (congrArg₂ (fun p q : EReal => p + q + _) (mask_past (k := 2) (by omega) (blkCol dy cb cc cx w l).u r _)
    (mask_past (k := 1) (by omega) (blkCol dy cb cc cx w l).u r _))

theorem tile1_apply (r : Fin 2048) (l : Fin 256) : (tile1 (F := Ideal) dy cb cx w (ix2 r l) : EReal) = (blkCol dy cb cc cx w l).grad 1 r := by
  pointwise [tile1, duT, k0_pay14, k0_pay9, k0_pay8, k0_pay10, k0_pay11, k0_pay12, k0_pay13, k0_pay3]
  rw [select_slt (by omega), select_slt (by omega)]
  exact congrArg (· * _ : EReal → EReal) (congrArg₂ (fun p q : EReal => _ + p + q) (mask_ahead (k := 2047) (by omega) (by omega) (blkCol dy cb cc cx w l).d r _)
    (mask_ahead (k := 2046) (by omega) (by omega) (blkCol dy cb cc cx w l).d r _))

theorem tile2_apply (r : Fin 2048) (l : Fin 256) : (tile2 (F := Ideal) dy cb cc w (ix2 r l) : EReal) = (blkCol dy cb cc cx w l).grad 2 r := by
  pointwise [tile2, duT, k0_pay14, k0_pay9, k0_pay8, k0_pay10, k0_pay11, k0_pay12, k0_pay13, k0_pay2]
  rw [select_slt (by omega), select_slt (by omega)]
  exact congrArg (· * _ : EReal → EReal) (congrArg₂ (fun p q : EReal => _ + p + q) (mask_ahead (k := 2047) (by omega) (by omega) (blkCol dy cb cc cx w l).d r _)
    (mask_ahead (k := 2046) (by omega) (by omega) (blkCol dy cb cc cx w l).d r _))

theorem tileW_apply (k : Fin 3) (l : Fin 256) : (tileW (F := Ideal) dy cb cc cx (ix2 k l) : EReal) = (blkCol dy cb cc cx w l).dw k := by
  fin_cases k
  · pointwise [tileW, k0_pay1, k0_pay4, k0_pay5, k0_pay6, k0_pay9, k0_pay8, k0_pay2, k0_pay3]
    refine Finset.sum_congr rfl fun r _ => ?_
    rw [select_sge (by omega)]
    exact mask_past (k := 2) (by omega) (blkCol dy cb cc cx w l).u r _
  · pointwise [tileW, k0_pay1, k0_pay4, k0_pay5, k0_pay6, k0_pay9, k0_pay8, k0_pay2, k0_pay3]
    refine Finset.sum_congr rfl fun r _ => ?_
    rw [select_sge (by omega)]
    exact mask_past (k := 1) (by omega) (blkCol dy cb cc cx w l).u r _
  · pointwise [tileW, k0_pay1, k0_pay4, k0_pay5, k0_pay6, k0_pay9, k0_pay8, k0_pay2, k0_pay3]
    refine Finset.sum_congr rfl fun r _ => ?_
    show _ = _ * past 0 _ _
    rw [past_zero]
    rfl

end Cert.KernelIdeal.Conv

end
-- ==== Proof.ConvRef.lean ====
/-
  The reference's results, column by column: the gradient of the gated convolution as plain scalar formulas.
-/
module

public import proofs.«01_k».proof.Proof.ConvSpec
public import proofs.«01_k».proof.Proof.Gen.ReferenceIdeal.Run

@[expose] public section

set_option maxRecDepth 16384

noncomputable section

namespace Cert.ReferenceIdeal.Conv

open Cert.Conv Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (ρ : Dev nD → PrngReg) (c : Dev nD)

abbrev argDy : FVec Ideal S2048x1024 .bf16 := m ((c.tc : Thread nD τ).loc main_arg0)
abbrev argP : FVec Ideal S2048x6656 .bf16 := m ((c.tc : Thread nD τ).loc main_arg1)
abbrev argW : FVec Ideal S3x1024 .f32 := m ((c.tc : Thread nD τ).loc main_arg2)
abbrev argD : FVec Ideal S2048x6656 .bf16 := m ((c.tc : Thread nD τ).loc main_arg3)

/-- Column `l` of the arguments. -/
def col (dy : FVec Ideal S2048x1024 .bf16) (P : FVec Ideal S2048x6656 .bf16) (w : FVec Ideal S3x1024 .f32) (l : Fin 1024) : Col where
  a r := dy (ix2 r l)
  b r := P (ix2 r ⟨l.val, by omega⟩)
  c r := P (ix2 r ⟨1024 + l.val, by omega⟩)
  x r := P (ix2 r ⟨2048 + l.val, by omega⟩)
  w k := w (ix2 k l)

theorem past2 (f : Fin 2048 → EReal) (r : Fin 2048) (z : EReal) :
    (z * if h : r.val < 2 then 0 else f ⟨r.val - 2, by omega⟩) = z * past 2 f r := by
  unfold past
  by_cases h : r.val < 2
  · rw [dif_pos h, if_neg (by omega)]
  · rw [dif_neg h, if_pos (by omega)]

theorem past1 (f : Fin 2048 → EReal) (r : Fin 2048) (z : EReal) :
    (z * if h : 1 + r.val < 2 then 0 else f ⟨1 + r.val - 2, by omega⟩) = z * past 1 f r := by
  unfold past
  by_cases h : 1 + r.val < 2
  · rw [dif_pos h, if_neg (by omega)]
  · rw [dif_neg h, if_pos (by omega)]; congr 2; exact Fin.ext (by show 1 + r.val - 2 = r.val - 1; omega)

theorem ahead1 (a b : Fin 2048 → EReal) (r : Fin 2048) (z : EReal) {q : Prop} [Decidable ((1 ≤ 2 + r.val ∧ 2 + r.val - 1 < 2048) ∧ q)] (hq : q) :
    (if h : (1 ≤ 2 + r.val ∧ 2 + r.val - 1 < 2048) ∧ q then z * (b ⟨2 + r.val - 1, h.1.2⟩ * a ⟨2 + r.val - 1, h.1.2⟩) else 0)
      = z * ahead 1 (fun r => a r * b r) r := by
  unfold ahead
  by_cases h : r.val + 1 < 2048
  · rw [dif_pos ⟨⟨by omega, by omega⟩, hq⟩, dif_pos h, mul_comm (b _)]
    have e : (⟨2 + r.val - 1, by omega⟩ : Fin 2048) = ⟨r.val + 1, h⟩ := Fin.ext (by show 2 + r.val - 1 = r.val + 1; omega)
    rw [e]
  · rw [dif_neg (fun h' => h (by omega)), dif_neg h, mul_zero]

theorem ahead2 (a b : Fin 2048 → EReal) (r : Fin 2048) (z : EReal) {q : Prop} [Decidable (2 + r.val < 2048 ∧ q)] (hq : q) :
    (if h : 2 + r.val < 2048 ∧ q then z * (b ⟨2 + r.val, h.1⟩ * a ⟨2 + r.val, h.1⟩) else 0)
      = z * ahead 2 (fun r => a r * b r) r := by
  unfold ahead
  by_cases h : r.val + 2 < 2048
  · rw [dif_pos ⟨by omega, hq⟩, dif_pos h, mul_comm (b _)]
    have e : (⟨2 + r.val, by omega⟩ : Fin 2048) = ⟨r.val + 2, h⟩ := Fin.ext (Nat.add_comm ..)
    rw [e]
  · rw [dif_neg (fun h' => h (by omega)), dif_neg h, mul_zero]

theorem du_ref (C : Col) (r : Fin 2048) {q : Prop} [Decidable ((1 ≤ 2 + r.val ∧ 2 + r.val - 1 < 2048) ∧ q)] [Decidable (2 + r.val < 2048 ∧ q)] (hq : q) :
    ((C.w 2 * (C.b r * C.a r)
        + if h : (1 ≤ 2 + r.val ∧ 2 + r.val - 1 < 2048) ∧ q then C.w 1 * (C.b ⟨2 + r.val - 1, h.1.2⟩ * C.a ⟨2 + r.val - 1, h.1.2⟩) else 0)
      + if h : 2 + r.val < 2048 ∧ q then C.w 0 * (C.b ⟨2 + r.val, h.1⟩ * C.a ⟨2 + r.val, h.1⟩) else 0) = C.du r := by
  rw [ahead1 C.a C.b r _ hq, ahead2 C.a C.b r _ hq, mul_comm (C.b r)]
  rfl

theorem out0_cb (r : Fin 2048) (j : Fin 6656) (h : j.val < 1024) :
    (res_out0 (F := Ideal) m c (ix2 r j) : EReal) = (col (argDy m c) (argP m c) (argW m c) ⟨j.val, h⟩).grad 0 r := by
  pointwise [res_main_v58, fn_main_v55]
  rw [dif_pos (show j.val < 3072 by omega), dif_pos h]
  exact congrArg (argDy m c (ix2 r ⟨j.val, _⟩) * · : EReal → EReal) (congrArg₂ (fun p q : EReal => p + q + _)
    (past2 (col (argDy m c) (argP m c) (argW m c) ⟨j.val, h⟩).u r _) (past1 (col (argDy m c) (argP m c) (argW m c) ⟨j.val, h⟩).u r _))

theorem out0_cc (r : Fin 2048) (j : Fin 6656) (h : 1024 ≤ j.val) (h' : j.val - 1024 < 1024) :
    (res_out0 (F := Ideal) m c (ix2 r j) : EReal) = (col (argDy m c) (argP m c) (argW m c) ⟨j.val - 1024, h'⟩).grad 1 r := by
  pointwise [res_main_v58, fn_main_v55]
  have h0 : j.val < 3072 := by omega
  have h1 : ¬ j.val < 1024 := by omega
  simp only [h0, h1, h', ↓reduceDIte]
  exact congrArg (· * _ : EReal → EReal) (du_ref (col (argDy m c) (argP m c) (argW m c) ⟨j.val - 1024, h'⟩) r trivial)

theorem out0_cx (r : Fin 2048) (j : Fin 6656) (h : 2048 ≤ j.val) (h' : j.val - 1024 - 1024 < 1024) :
    (res_out0 (F := Ideal) m c (ix2 r j) : EReal) = (col (argDy m c) (argP m c) (argW m c) ⟨j.val - 1024 - 1024, h'⟩).grad 2 r := by
  pointwise [res_main_v58, fn_main_v55]
  have h0 : j.val < 3072 := by omega
  have h1 : ¬ j.val < 1024 := by omega
  have h2 : ¬ j.val - 1024 < 1024 := by omega
  simp only [h0, h1, h2, h', ↓reduceDIte]
  exact (mul_comm _ _).trans (congrArg (· * _ : EReal → EReal) (du_ref (col (argDy m c) (argP m c) (argW m c) ⟨j.val - 1024 - 1024, h'⟩) r trivial))

theorem out0_left (r : Fin 2048) (j : Fin 6656) (p : Fin 3) (l : Fin 1024) (h : j.val = 1024 * p.val + l.val) :
    (res_out0 (F := Ideal) m c (ix2 r j) : EReal) = (col (argDy m c) (argP m c) (argW m c) l).grad p r := by
  have hl := l.isLt
  match p, h with
  | 0, h =>
    have h : j.val = 1024 * 0 + l.val := h
    refine (out0_cb m c r j (by omega)).trans ?_
    congr 2; exact Fin.ext (by show j.val = l.val; omega)
  | 1, h =>
    have h : j.val = 1024 * 1 + l.val := h
    refine (out0_cc m c r j (by omega) (by omega)).trans ?_
    congr 2; exact Fin.ext (by show j.val - 1024 = l.val; omega)
  | 2, h =>
    have h : j.val = 1024 * 2 + l.val := h
    refine (out0_cx m c r j (by omega) (by omega)).trans ?_
    congr 2; exact Fin.ext (by show j.val - 1024 - 1024 = l.val; omega)

theorem out0_right (r : Fin 2048) (j : Fin 6656) (h : 3072 ≤ j.val) :
    (res_out0 (F := Ideal) m c (ix2 r j) : EReal) = argD m c (ix2 r j) := by
  pointwise [res_main_v58]
  rw [dif_neg (show ¬ j.val < 3072 by omega)]
  congr 2
  exact Fin.ext (by show 3072 + (j.val - 3072) = j.val; omega)

/-- A sum against a column moved `k` rows down, cut after its first `k` rows. -/
theorem dw_ref (C : Col) (k n : ℕ) (e : 2048 = k + n) :
    ((∑ x : Fin k, C.b ⟨x.val, by omega⟩ * C.a ⟨x.val, by omega⟩ * 0)
      + ∑ x : Fin n, C.b ⟨k + x.val, by omega⟩ * C.a ⟨k + x.val, by omega⟩ * (C.c ⟨x.val, by omega⟩ * C.x ⟨x.val, by omega⟩) : EReal)
      = ∑ r, C.d r * past k C.u r := by
  rw [← (finCongr e).symm.sum_comp, Fin.sum_univ_add]
  congr 1
  · refine Finset.sum_congr rfl fun x _ => ?_
    have h : past k C.u ((finCongr e).symm (Fin.castAdd n x)) = 0 := if_neg (by show ¬ k ≤ x.val; omega)
    rw [h, mul_zero, mul_zero]
  · refine Finset.sum_congr rfl fun x _ => ?_
    have h : past k C.u ((finCongr e).symm (Fin.natAdd k x)) = C.u ⟨x.val, by omega⟩ := by
      refine (if_pos (by show k ≤ k + x.val; omega)).trans ?_
      congr 1; exact Fin.ext (by show k + x.val - k = x.val; omega)
    rw [h, mul_comm (C.b _)]
    rfl

/-- The reference's run, the filter's gradient read by columns. -/
theorem run_cols : θ_run (defs (F := Ideal)) (onTc (τ := τ) (main (F := Ideal))) ⟨m, fun _ => 0, ρ⟩ fun r => ∀ c : Dev nD,
      r.2.mem ((c.tc : Thread nD τ).loc main_v58) = res_out0 m c
      ∧ r.2.mem ((c.tc : Thread nD τ).loc main_v50) = (fun j => (col (argDy m c) (argP m c) (argW m c) (j 1)).dw (j 0) : FVec Ideal S3x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1, (h c).2.1.trans ?_, (h c).2.2⟩) (run (F := Ideal) m ρ)
  clear h
  funext j
  idx_vars j
  match j0 with
  | 0 =>
    pointwise
    exact dw_ref (col (argDy m c) (argP m c) (argW m c) j1) 2 2046 rfl
  | 1 =>
    pointwise
    exact Finset.sum_congr rfl fun r _ => (congrArg (· * _ : EReal → EReal) (mul_comm _ _)).trans
      (past1 (col (argDy m c) (argP m c) (argW m c) j1).u r _)
  | 2 =>
    pointwise
    exact Finset.sum_congr rfl fun r _ => (congrArg (· * _ : EReal → EReal) (mul_comm _ _)).trans
      (congrArg ((col (argDy m c) (argP m c) (argW m c) j1).d r * · : EReal → EReal) (past_zero (col (argDy m c) (argP m c) (argW m c) j1).u r).symm)

end Cert.ReferenceIdeal.Conv

end
-- ==== Proof.ConvValue.lean ====
/-
  What the gated convolution's gradient leaves: every column of both results is the gradient of that column.
-/
module

public import proofs.«01_k».proof.Proof.ConvFrame
public import proofs.«01_k».proof.Proof.ConvRef
public import Idealize.ShloMosaic.Lib.Pipeline.ValueKit

@[expose] public section

set_option maxRecDepth 16384

noncomputable section

namespace Cert.KernelIdeal.Conv

open Cert.Conv Cert.KernelIdeal Cert.KernelIdeal.Gen
open Idealize.ShloMosaic Idealize.ShloMosaic.TcCoe Idealize.ShloMosaic.Tactic
open Idealize.ShloMosaic.Pipeline (Dat Cfg Window)
open Cert.ReferenceIdeal.Conv (col)

variable (m : (ℓ : Loc nD τ sig) → Buf (Elt Ideal) ℓ) (c : Dev nD)

abbrev argDy : FVec Ideal S2048x1024 .bf16 := m ((c.tc : Thread nD τ).loc main_arg0)
abbrev argP : FVec Ideal S2048x6656 .bf16 := m ((c.tc : Thread nD τ).loc main_arg1)
abbrev argW : FVec Ideal S3x1024 .f32 := m ((c.tc : Thread nD τ).loc main_arg2)
abbrev argD : FVec Ideal S2048x6656 .bf16 := m ((c.tc : Thread nD τ).loc main_arg3)

theorem idx (t : Fin cfg0.N) : win0_0.index t = ![0, t.val] ∧ win0_1.index t = ![0, t.val] ∧ win0_2.index t = ![0, 4 + t.val]
    ∧ win0_3.index t = ![0, 8 + t.val] ∧ win0_4.index t = ![0, t.val] ∧ win0_5.index t = ![0, t.val] := by
  revert t; decide +kernel
theorem coord0 (t : Fin cfg0.N) : (grid0.coords t 0).val = t.val := by revert t; decide +kernel

theorem tlt (t : Fin cfg0.N) : t.val < 4 := t.isLt

/-- The blocks of point `t` are 256 columns of the arguments. -/
theorem blkCol_eq (t : Fin cfg0.N) (l : Fin 256) (l' : Fin 1024) (h : l'.val = 256 * t.val + l.val) :
    blkCol (inDy m c t) (inCb m c t) (inCc m c t) (inCx m c t) (inW m c t) l = col (argDy m c) (argP m c) (argW m c) l' := by
  have ht := tlt t
  unfold blkCol col
  congr 1
  · funext r; blk_ext [iblk, V, idx t]
  · funext r; blk_ext [iblk, V, idx t]
  · funext r; blk_ext [iblk, V, idx t]
  · funext r; blk_ext [iblk, V, idx t]
  · funext k; blk_ext [iblk, V, idx t]

theorem tiles_apply (t : Fin cfg0.N) (p : Fin 3) (r : Fin 2048) (l : Fin 256) (l' : Fin 1024) (h : l'.val = 256 * t.val + l.val) :
    (tiles m c t p (ix2 r l) : EReal) = (col (argDy m c) (argP m c) (argW m c) l').grad p r := by
  rw [← blkCol_eq m c t l l' h]
  match p with
  | 0 => exact tile0_apply ..
  | 1 => exact tile1_apply ..
  | 2 => exact tile2_apply ..

theorem tilesW_apply (t : Fin cfg0.N) (k : Fin 3) (l : Fin 256) (l' : Fin 1024) (h : l'.val = 256 * t.val + l.val) :
    (tilesW m c t (ix2 k l) : EReal) = (col (argDy m c) (argP m c) (argW m c) l').dw k := by
  rw [← blkCol_eq m c t l l' h]
  exact tileW_apply ..

/-- The filter's gradient after the run. -/
theorem dw_final : ((dats m 0 c).arrAt 5 cfg0.N : FVec Ideal S3x1024 .f32)
    = fun j => (col (argDy m c) (argP m c) (argW m c) (j 1)).dw (j 0) := by
  refine (dats m 0 c).arrAt_eq_of_covers 5 _ (by decide +kernel) fun t hf y => ?_
  blk_simp
  rw [after0_5]
  idx_vars y
  refine (tilesW_apply m c t y0 y1 _ ?_).trans (congrArg (Col.dw _) (Fin.ext ?_))
  · blk_simp [idx t]; try omega
  · blk_simp [idx t]; try omega

/-- The projection's gradient before point `n`: the tiles of the points before it, and the rest as launched. -/
theorem dprojAt_apply (n : ℕ) (hn : n ≤ 4) (r : Fin 2048) (j : Fin 6656) :
    (∀ (p : Fin 3) (l : Fin 1024), j.val = 1024 * p.val + l.val → l.val < 256 * n →
      (dprojAt m c n (ix2 r j) : EReal) = (col (argDy m c) (argP m c) (argW m c) l).grad p r)
    ∧ ((3072 ≤ j.val ∨ 256 * n ≤ j.val % 1024) → (dprojAt m c n (ix2 r j) : EReal) = argD m c (ix2 r j)) := by
  induction n with
  | zero =>
    refine ⟨fun p l _ h => absurd h (by omega), fun _ => ?_⟩
    have e : (V m c main_v0_0 : FVec Ideal S2048x6656 .bf16) = argD m c := by
      unfold V; after_results_simp; rfl
    exact congrFun e _
  | succ n ih =>
    have hn' : n < cfg0.N := by rw [show cfg0.N = 4 from N_0]; omega
    have e := congrFun (dprojAt_succ m c ⟨n, hn'⟩) (ix2 r j)
    have hc : (grid0.coords ⟨n, hn'⟩ 0).val = n := coord0 ⟨n, hn'⟩
    obtain ⟨ih1, ih2⟩ := ih (by omega)
    refine ⟨fun p l hj hl => e.trans ?_, fun hj => e.trans ?_⟩
    · by_cases h : l.val < 256 * n
      · refine (dNext_out _ _ _ _ ?_).trans (ih1 p l hj h)
        have := p.isLt; have := l.isLt
        rintro ⟨-, h1, -⟩
        have h1 : 256 * (grid0.coords ⟨n, hn'⟩ 0).val ≤ j.val % 1024 := h1
        rw [hc] at h1
        omega
      · refine (dNext_in _ _ _ p (ix2 r ⟨l.val - 256 * n, by omega⟩) _ rfl ?_).trans (tiles_apply m c ⟨n, hn'⟩ p r _ l ?_)
        · show j.val = 1024 * p.val + 256 * (grid0.coords ⟨n, hn'⟩ 0).val + (l.val - 256 * n)
          rw [hc]; omega
        · show l.val = 256 * n + (l.val - 256 * n)
          omega
    · refine (dNext_out _ _ _ _ ?_).trans (ih2 (by omega))
      rintro ⟨h0, h1, h2⟩
      have h0 : j.val < 3072 := h0
      have h2 : j.val % 1024 < 256 * (grid0.coords ⟨n, hn'⟩ 0).val + 256 := h2
      rw [hc] at h2
      omega

/-- On arguments that agree, the projection's gradient after the run is the reference's. -/
theorem dproj_final (m' : (ℓ : Loc Cert.ReferenceIdeal.nD Cert.ReferenceIdeal.τ Cert.ReferenceIdeal.sig) → Buf (Elt Ideal) ℓ)
    (h0 : Cert.ReferenceIdeal.Conv.argDy m' c = argDy m c) (h1 : Cert.ReferenceIdeal.Conv.argP m' c = argP m c)
    (h2 : Cert.ReferenceIdeal.Conv.argW m' c = argW m c) (h3 : Cert.ReferenceIdeal.Conv.argD m' c = argD m c) :
    dprojAt m c 4 = (Cert.ReferenceIdeal.Value.res_out0 m' c : FVec Ideal S2048x6656 .bf16) := by
  funext k
  idx_vars k
  by_cases h : k1.val < 3072
  · have e : k1.val = 1024 * (k1.val / 1024) + k1.val % 1024 := (Nat.div_add_mod ..).symm
    refine ((dprojAt_apply m c 4 le_rfl k0 k1).1 ⟨k1.val / 1024, by omega⟩ ⟨k1.val % 1024, by omega⟩ e (by show k1.val % 1024 < 1024; omega)).trans ?_
    refine Eq.trans ?_ (Cert.ReferenceIdeal.Conv.out0_left m' c k0 k1 ⟨k1.val / 1024, by omega⟩ ⟨k1.val % 1024, by omega⟩ e).symm
    rw [h0, h1, h2]
  · refine ((dprojAt_apply m c 4 le_rfl k0 k1).2 (.inl (by omega))).trans ?_
    exact (congrFun h3.symm _).trans (Cert.ReferenceIdeal.Conv.out0_right m' c k0 k1 (by omega)).symm

end Cert.KernelIdeal.Conv

end
-- ==== Proof.ProjX.lean ====
/-
  The gradient of the input projection's argument: the incoming gradient times the weight, the 6656 summed indices run
  through in four grid steps that hand on an accumulator.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel2Ideal.ProjX

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- One grid step's product, added to what the accumulator held. -/
def step (A : FVec Ideal S1024x1664 .bf16) (B : FVec Ideal S1664x1024 .bf16) (S : FVec Ideal S1024x1024 .f32) : FVec Ideal S1024x1024 .f32 :=
  fun y => ((S y : EReal) + ∑ k : Fin 1664, (A (ix2 (y 0) k) : EReal) * (B (ix2 k (y 1)) : EReal) : EReal)

/-- The four row blocks that a grid step stores into the accumulator, last first. -/
abbrev blocks (A : FVec Ideal S1024x1664 .bf16) (B : FVec Ideal S1664x1024 .bf16) (S : FVec Ideal S1024x1024 .f32) : List (View.Piece (Elt Ideal) S1024x1024 .f32) :=
  [⟨Rect.unit (s := S1024x1024) ![768, 0] ![256, 1024] inb_S1024x1024_S256x1024_768_0,
      k0_pay2 (F := Ideal) (View.ld (Val := Elt Ideal) (e' := .bf16) A (Rect.unit (s := S1024x1664) ![768, 0] ![256, 1664] inb_S1024x1664_S256x1664_768_0)) B (constant S256x1024 FTy.f32 0#32)
        (View.ld (Val := Elt Ideal) (e' := .f32) S (Rect.unit (s := S1024x1024) ![768, 0] ![256, 1024] inb_S1024x1024_S256x1024_768_0))⟩,
    ⟨Rect.unit (s := S1024x1024) ![512, 0] ![256, 1024] inb_S1024x1024_S256x1024_512_0,
      k0_pay1 (F := Ideal) (k0_pay6 (F := Ideal) (View.ld (Val := Elt Ideal) (e' := .bf16) A (Rect.unit (s := S1024x1664) ![512, 0] ![256, 1664] inb_S1024x1664_S256x1664_512_0)) B)
        (View.ld (Val := Elt Ideal) (e' := .f32) S (Rect.unit (s := S1024x1024) ![512, 0] ![256, 1024] inb_S1024x1024_S256x1024_512_0))⟩,
    ⟨Rect.unit (s := S1024x1024) ![256, 0] ![256, 1024] inb_S1024x1024_S256x1024_256_0,
      k0_pay7 (F := Ideal) (View.ld (Val := Elt Ideal) (e' := .bf16) A (Rect.unit (s := S1024x1664) ![256, 0] ![256, 1664] inb_S1024x1664_S256x1664_256_0)) B
        (View.ld (Val := Elt Ideal) (e' := .f32) S (Rect.unit (s := S1024x1024) ![256, 0] ![256, 1024] inb_S1024x1024_S256x1024_256_0))⟩,
    ⟨Rect.unit (s := S1024x1024) ![0, 0] ![256, 1024] inb_S1024x1024_S256x1024_0_0,
      k0_pay5 (F := Ideal) (View.ld (Val := Elt Ideal) (e' := .bf16) A (Rect.unit (s := S1024x1664) ![0, 0] ![256, 1664] inb_S1024x1664_S256x1664_0_0)) B
        (View.ld (Val := Elt Ideal) (e' := .f32) S (Rect.unit (s := S1024x1024) ![0, 0] ![256, 1024] inb_S1024x1024_S256x1024_0_0))⟩]

/-- Each stored block is the step's function on its rows. -/
theorem blocks_of (A : FVec Ideal S1024x1664 .bf16) (B : FVec Ideal S1664x1024 .bf16) (S : FVec Ideal S1024x1024 .f32) :
    View.PiecesOf (step A B S) (blocks A B S) := by
  refine ⟨fun x => ?_, fun x => ?_, fun x => ?_, fun x => ?_, trivial⟩
  all_goals dsimp only at x ⊢
  all_goals idx_vars x
  all_goals pointwise [k0_pay1, k0_pay2, k0_pay5, k0_pay6, k0_pay7, step]
  all_goals refine congrArg₂ (fun p q : EReal => p + q) ?_ (Finset.sum_congr rfl fun k _ => congrArg₂ (fun p q : EReal => p * q) ?_ ?_)
  all_goals blk_ext []

/-- The four blocks cover the accumulator, whatever was stored before them. -/
theorem acc_eq (A : FVec Ideal S1024x1664 .bf16) (B : FVec Ideal S1664x1024 .bf16) (S : FVec Ideal S1024x1024 .f32) (L : List (View.Piece (Elt Ideal) S1024x1024 .f32)) :
    View.canon (blocks A B S ++ L) = step A B S := by
  funext y
  refine View.canon_append_of_piecesOf _ L (blocks A B S) (blocks_of A B S) y ?_
  exact View.cover_of_tiled (blocks A B S) ![256, 1024] (by rfl) y

/-- The accumulator after the first step of a row tile, which clears it. -/
theorem accA (t : Fin cfg0.N) (h0 : t.val % 4 = 0) (h1 : ¬t.val % 4 = 3) :
    (outsAt0 m c t.val t.isLt).2 = step (iblk m c 0 t) (iblk m c 1 t) k0_pay4 := by
  rw [outsAt0_A m c t h0 h1]
  frame_open
  simp (disch := decide) only [↓ View.readCov_skip, ↓ View.readCov_cons_toLoadRect, ↓ View.readCov_fill]
  frame_out
  exact acc_eq _ _ _ [_]

/-- The accumulator after a step in between. -/
theorem accB (t : Fin cfg0.N) (h0 : ¬ t.val % 4 = 0) (h1 : ¬t.val % 4 = 3) :
    (outsAt0 m c t.val t.isLt).2 = step (iblk m c 0 t) (iblk m c 1 t) (outsAt0 m c (t.val - 1) (Nat.lt_of_le_of_lt (Nat.sub_le _ _) t.isLt)).2 := by
  rw [outsAt0_B m c t h0 h1]
  frame_out
  simp only [read_unread_whole]
  exact acc_eq _ _ _ []

/-- The accumulator after the last step of a row tile. -/
theorem accC (t : Fin cfg0.N) (h0 : ¬ t.val % 4 = 0) (h1 : t.val % 4 = 3) :
    (outsAt0 m c t.val t.isLt).2 = step (iblk m c 0 t) (iblk m c 1 t) (outsAt0 m c (t.val - 1) (Nat.lt_of_le_of_lt (Nat.sub_le _ _) t.isLt)).2 := by
  rw [outsAt0_C m c t h0 h1]
  frame_out
  simp only [read_unread_whole]
  exact acc_eq _ _ _ []

/-- The accumulator, loaded whole after the four stores. -/
theorem acc_load (A : FVec Ideal S1024x1664 .bf16) (B : FVec Ideal S1664x1024 .bf16) (S : FVec Ideal S1024x1024 .f32) :
    (View.whole cc0_scratch0).readCov (Val := Elt Ideal) (blocks A B S) (Rect.unit (s := S1024x1024) ![0, 0] ![1024, 1024] inb_S1024x1024_S1024x1024_0_0).toLoadRect
      = step A B S := by
  rw [View.readCov_eq_canon']
  funext y
  refine (congrFun (acc_eq A B S []) _).trans (congrArg (step A B S) ?_)
  blk_ext []
  · exact (Rect.idx_unit_val _ _ _ y 0).trans (Nat.zero_add _)
  · exact (Rect.idx_unit_val _ _ _ y 1).trans (Nat.zero_add _)

/-- The last step writes the accumulator out. -/
theorem outC (t : Fin cfg0.N) (h0 : ¬ t.val % 4 = 0) (h1 : t.val % 4 = 3) :
    (outsAt0 m c t.val t.isLt).1 = k0_pay3 (outsAt0 m c t.val t.isLt).2 := by
  rw [accC m c t h0 h1, outsAt0_C m c t h0 h1]
  frame_out
  simp only [read_unread_whole]
  exact congrArg k0_pay3 (acc_load _ _ _)

/-- Which block of each array a grid step works on. -/
theorem idx (t : Fin cfg0.N) : win0_0.index t = ![t.val / 4, t.val % 4] ∧ win0_1.index t = ![t.val % 4, 0] ∧ win0_2.index t = ![t.val / 4, 0] := by
  revert t; decide +kernel

abbrev argD : FVec Ideal S2048x6656 .bf16 := m ((c : Thread nD τ).loc main_arg0)
abbrev argW : FVec Ideal S6656x1024 .bf16 := m ((c : Thread nD τ).loc main_arg2)

/-- What the call computes: the gradient, as a sum over the whole summed axis. -/
def grad : FVec Ideal S2048x1024 .bf16 := fun j => (∑ n : Fin 6656, (argD m c (ix2 (j 0) n) : EReal) * (argW m c (ix2 n (j 1)) : EReal) : EReal)

/-- One grid step's product at an element of its block. -/
def part (t : Fin cfg0.N) (y : S1024x1024.Idx) : EReal :=
  let A : FVec Ideal S1024x1664 .bf16 := iblk m c 0 t
  let B : FVec Ideal S1664x1024 .bf16 := iblk m c 1 t
  ∑ k : Fin 1664, (A (ix2 (y 0) k) : EReal) * (B (ix2 k (y 1)) : EReal)

/-- The cleared accumulator. -/
theorem zero_apply (y : S1024x1024.Idx) : (k0_pay4 (F := Ideal) y : EReal) = 0 := by
  pointwise [k0_pay4]

/-- The accumulator at a point that writes back: the four partial products of its row tile. -/
theorem acc_sum (t : Fin cfg0.N) (ht : t.val % 4 = 3) (y : S1024x1024.Idx) :
    ((outsAt0 m c t.val t.isLt).2 y : EReal) = 0 + ∑ s : Fin 4, part m c ⟨4 * (t.val / 4) + s.val, Pipeline.run_point_lt_of_flush (J := 4) t ht s⟩ y :=
  Pipeline.eq_sum_fin_of_reset_step_apply_of_flush (M := EReal) (fun n h => (outsAt0 m c n h).2) 4 (fun _ => 0) (part m c)
    (fun t h i => by
      have e := congrFun (accA m c t h (by omega)) i
      exact e.trans (congrArg (fun p : EReal => p + part m c t i) (zero_apply i)))
    (fun t h i => by
      by_cases h1 : t.val % 4 = 3
      · exact congrFun (accC m c t h h1) i
      · exact congrFun (accB m c t h h1) i)
    t ht y

/-- The array after the last grid step: each element lies in the block of one step. -/
theorem final : (dats m 0 c).arrAt 2 cfg0.N = grad m c := by
  refine (dats m 0 c).arrAt_eq_of_covers 2 _ (by decide +kernel) fun t hf y => ?_
  have ht := (flush0_2 t).mp hf
  blk_simp
  rw [after0_2, outC m c t (by omega) ht]
  refine (acc_sum m c t ht y).trans ((zero_add _).trans ?_)
  refine Fin.sum_mul_add_congr fun s k hl => ?_
  refine congrArg₂ (fun p q : EReal => p * q) ?_ ?_
  all_goals blk_ext [iblk, V, idx t, idx ⟨4 * (t.val / 4) + s.val, Pipeline.run_point_lt_of_flush (J := 4) t ht s⟩]

/-- The reference's product, read element by element. -/
theorem ref (A : FVec Ideal S2048x6656 .bf16) (B : FVec Ideal S6656x1024 .bf16) :
    (truncf .bf16 (Host.dotGeneral Cert.Reference2Ideal.dot_S2048x6656_S6656x1024_S2048x1024_1_0_0_1_n_n none (extf .f32 A bitsLt_bf16_f32) B) bitsLt_bf16_f32 : FVec Ideal S2048x1024 .bf16)
      = fun j => (∑ n : Fin 6656, (A (ix2 (j 0) n) : EReal) * (B (ix2 n (j 1)) : EReal) : EReal) := by
  funext j
  pointwise

/-- Over the reals the call and its reference leave the same result. -/
theorem algebraic : Cert.algebraic_Kernel2Ideal_Reference2Ideal := fun m ρ m' ρ' _ hm => by
  refine ⟨fun c => grad m c,
    (θ_run Cert.Kernel2Ideal.defs _ _).mono (fun r h c => ⟨(h c).1.trans (final m c), (h c).2⟩) (Cert.Kernel2Ideal.Value.run_blocks m ρ),
    (θ_run Cert.Reference2Ideal.defs _ _).mono (fun r h c => ⟨(h c).1.trans ?_, (h c).2⟩) (Cert.Reference2Ideal.Value.run m' ρ')⟩
  rw [(hm c).1, (hm c).2.2]
  exact ref _ _

end Cert.Kernel2Ideal.ProjX
-- ==== Proof.ProjW.lean ====
/-
  The gradient of the input projection's weight.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.ProjW

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, t.val] ∧ win0_1.index t = ![0, 0] ∧ win0_2.index t = ![t.val, 0] := by
  revert t; decide +kernel

abbrev argD : FVec Ideal S2048x6656 .bf16 := m ((c : Thread nD τ).loc main_arg0)
abbrev argH : FVec Ideal S2048x1024 .bf16 := m ((c : Thread nD τ).loc main_arg1)

/-- What the call computes: the gradient, as a sum over the whole summed axis. -/
def grad : FVec Ideal S6656x1024 .bf16 := fun j => (∑ t : Fin 2048, (argD m c (ix2 t (j 0)) : EReal) * (argH m c (ix2 t (j 1)) : EReal) : EReal)

/-- The array after the last grid step: each element lies in the block of one step. -/
theorem final : (dats m 0 c).arrAt 2 cfg0.N = grad m c := by
  refine (dats m 0 c).arrAt_eq_of_covers 2 _ (by decide +kernel) fun t hf y => ?_
  blk_simp
  rw [after0_2]
  unfold out0_2
  canon_tiles x h
  all_goals pointwise [k0_pay1, k0_pay2, k0_pay3, k0_pay4, grad]
  all_goals refine Finset.sum_congr rfl fun k _ => congrArg₂ (fun p q : EReal => p * q) ?_ ?_
  all_goals blk_ext [iblk, V, idx t]

/-- The reference's product, read element by element. -/
theorem ref (A : FVec Ideal S2048x6656 .bf16) (B : FVec Ideal S2048x1024 .bf16) :
    (truncf .bf16 (Host.dotGeneral Cert.Reference3Ideal.dot_S2048x6656_S2048x1024_S6656x1024_0_0_1_1_n_n none (extf .f32 A bitsLt_bf16_f32) B) bitsLt_bf16_f32 : FVec Ideal S6656x1024 .bf16)
      = fun j => (∑ t : Fin 2048, (A (ix2 t (j 0)) : EReal) * (B (ix2 t (j 1)) : EReal) : EReal) := by
  funext j
  pointwise

/-- Over the reals the call and its reference leave the same result. -/
theorem algebraic : Cert.algebraic_Kernel3Ideal_Reference3Ideal := fun m ρ m' ρ' _ hm => by
  refine ⟨fun c => grad m c,
    (θ_run Cert.Kernel3Ideal.defs _ _).mono (fun r h c => ⟨(h c).1.trans (final m c), (h c).2⟩) (Cert.Kernel3Ideal.Value.run_blocks m ρ),
    (θ_run Cert.Reference3Ideal.defs _ _).mono (fun r h c => ⟨(h c).1.trans ?_, (h c).2⟩) (Cert.Reference3Ideal.Value.run m' ρ')⟩
  rw [(hm c).1, (hm c).2.1]
  exact ref _ _

end Cert.Kernel3Ideal.ProjW
-- ==== Proof.GateUpX.lean ====
/-
  The gradient of the normalized activations under the gate and up projections: the two gradients side by side times the
  weight, the product's 5632 summed indices run through in four grid steps, the first two over the gate's gradient and
  the last two over the up projection's.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel4Ideal.GateUpX

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- One grid step's product, added to what the accumulator held. -/
def step (A : FVec Ideal S1024x1408 .bf16) (B : FVec Ideal S1408x1024 .bf16) (S : FVec Ideal S1024x1024 .f32) : FVec Ideal S1024x1024 .f32 :=
  fun y => ((S y : EReal) + ∑ k : Fin 1408, (A (ix2 (y 0) k) : EReal) * (B (ix2 k (y 1)) : EReal) : EReal)

/-- The four row blocks that a grid step stores into the accumulator, last first. -/
abbrev blocks (A : FVec Ideal S1024x1408 .bf16) (B : FVec Ideal S1408x1024 .bf16) (S : FVec Ideal S1024x1024 .f32) : List (View.Piece (Elt Ideal) S1024x1024 .f32) :=
  [⟨Rect.unit (s := S1024x1024) ![768, 0] ![256, 1024] inb_S1024x1024_S256x1024_768_0,
      k0_pay3 (F := Ideal) (k0_pay9 (F := Ideal) (View.ld (Val := Elt Ideal) (e' := .bf16) A (Rect.unit (s := S1024x1408) ![768, 0] ![256, 1408] inb_S1024x1408_S256x1408_768_0)) B) (View.ld (Val := Elt Ideal) (e' := .f32) S (Rect.unit (s := S1024x1024) ![768, 0] ![256, 1024] inb_S1024x1024_S256x1024_768_0))⟩,
    ⟨Rect.unit (s := S1024x1024) ![512, 0] ![256, 1024] inb_S1024x1024_S256x1024_512_0,
      k0_pay2 (F := Ideal) (k0_pay10 (F := Ideal) (View.ld (Val := Elt Ideal) (e' := .bf16) A (Rect.unit (s := S1024x1408) ![512, 0] ![256, 1408] inb_S1024x1408_S256x1408_512_0)) B (View.ld (Val := Elt Ideal) (e' := .f32) S (Rect.unit (s := S1024x1024) ![512, 0] ![256, 1024] inb_S1024x1024_S256x1024_512_0)))⟩,
    ⟨Rect.unit (s := S1024x1024) ![256, 0] ![256, 1024] inb_S1024x1024_S256x1024_256_0,
      k0_pay8 (F := Ideal) (View.ld (Val := Elt Ideal) (e' := .bf16) A (Rect.unit (s := S1024x1408) ![256, 0] ![256, 1408] inb_S1024x1408_S256x1408_256_0)) B (View.ld (Val := Elt Ideal) (e' := .f32) S (Rect.unit (s := S1024x1024) ![256, 0] ![256, 1024] inb_S1024x1024_S256x1024_256_0))⟩,
    ⟨Rect.unit (s := S1024x1024) ![0, 0] ![256, 1024] inb_S1024x1024_S256x1024_0_0,
      k0_pay7 (F := Ideal) (View.ld (Val := Elt Ideal) (e' := .bf16) A (Rect.unit (s := S1024x1408) ![0, 0] ![256, 1408] inb_S1024x1408_S256x1408_0_0)) B (View.ld (Val := Elt Ideal) (e' := .f32) S (Rect.unit (s := S1024x1024) ![0, 0] ![256, 1024] inb_S1024x1024_S256x1024_0_0))⟩]

/-- Each stored block is the step's function on its rows. -/
theorem blocks_of (A : FVec Ideal S1024x1408 .bf16) (B : FVec Ideal S1408x1024 .bf16) (S : FVec Ideal S1024x1024 .f32) :
    View.PiecesOf (step A B S) (blocks A B S) := by
  refine ⟨fun x => ?_, fun x => ?_, fun x => ?_, fun x => ?_, trivial⟩
  all_goals dsimp only at x ⊢
  all_goals idx_vars x
  all_goals pointwise [k0_pay2, k0_pay3, k0_pay7, k0_pay8, k0_pay9, k0_pay10, step]
  all_goals refine congrArg₂ (fun p q : EReal => p + q) ?_ (Finset.sum_congr rfl fun k _ => congrArg₂ (fun p q : EReal => p * q) ?_ ?_)
  all_goals blk_ext []

/-- The four blocks cover the accumulator, whatever was stored before them. -/
theorem acc_eq (A : FVec Ideal S1024x1408 .bf16) (B : FVec Ideal S1408x1024 .bf16) (S : FVec Ideal S1024x1024 .f32) (L : List (View.Piece (Elt Ideal) S1024x1024 .f32)) :
    View.canon (blocks A B S ++ L) = step A B S := by
  funext y
  refine View.canon_append_of_piecesOf _ L (blocks A B S) (blocks_of A B S) y ?_
  exact View.cover_of_tiled (blocks A B S) ![256, 1024] (by rfl) y

/-- The accumulator after the first step of a row tile, which clears it. -/
theorem accA (t : Fin cfg0.N) (h0 : t.val % 4 = 0) :
    (outsAt0 m c t.val t.isLt).2 = step (iblk m c 0 t) (iblk m c 2 t) k0_pay1 := by
  rw [outsAt0_A m c t h0 (by omega) (by omega) (by omega)]
  frame_open
  simp (disch := decide) only [↓ View.readCov_skip, ↓ View.readCov_cons_toLoadRect, ↓ View.readCov_fill]
  frame_out
  exact acc_eq _ _ _ [_]

/-- The accumulator after a step in between. -/
theorem accB (t : Fin cfg0.N) (h0 : ¬ t.val % 4 = 0) (h1 : t.val % 4 ≤ 1) :
    (outsAt0 m c t.val t.isLt).2 = step (iblk m c 0 t) (iblk m c 2 t) (outsAt0 m c (t.val - 1) (Nat.lt_of_le_of_lt (Nat.sub_le _ _) t.isLt)).2 := by
  rw [outsAt0_B m c t h0 h1 (by omega) (by omega)]
  frame_out
  simp only [read_unread_whole]
  exact acc_eq _ _ _ []

/-- A step in between over the second array. -/
theorem accC (t : Fin cfg0.N) (h2 : 2 ≤ t.val % 4) (h3 : ¬t.val % 4 = 3) :
    (outsAt0 m c t.val t.isLt).2 = step (iblk m c 1 t) (iblk m c 2 t) (outsAt0 m c (t.val - 1) (Nat.lt_of_le_of_lt (Nat.sub_le _ _) t.isLt)).2 := by
  rw [outsAt0_C m c t (by omega) (by omega) h2 h3]
  frame_out
  simp only [read_unread_whole]
  exact acc_eq _ _ _ []

/-- The last step of a row tile. -/
theorem accD (t : Fin cfg0.N) (h3 : t.val % 4 = 3) :
    (outsAt0 m c t.val t.isLt).2 = step (iblk m c 1 t) (iblk m c 2 t) (outsAt0 m c (t.val - 1) (Nat.lt_of_le_of_lt (Nat.sub_le _ _) t.isLt)).2 := by
  rw [outsAt0_D m c t (by omega) (by omega) (by omega) h3]
  frame_out
  simp only [read_unread_whole]
  exact acc_eq _ _ _ []

/-- The accumulator, loaded whole after the four stores. -/
theorem acc_load (A : FVec Ideal S1024x1408 .bf16) (B : FVec Ideal S1408x1024 .bf16) (S : FVec Ideal S1024x1024 .f32) :
    (View.whole cc0_scratch0).readCov (Val := Elt Ideal) (blocks A B S) (Rect.unit (s := S1024x1024) ![0, 0] ![1024, 1024] inb_S1024x1024_S1024x1024_0_0).toLoadRect
      = step A B S := by
  rw [View.readCov_eq_canon']
  funext y
  refine (congrFun (acc_eq A B S []) _).trans (congrArg (step A B S) ?_)
  blk_ext []
  · exact (Rect.idx_unit_val _ _ _ y 0).trans (Nat.zero_add _)
  · exact (Rect.idx_unit_val _ _ _ y 1).trans (Nat.zero_add _)

/-- The last step writes the accumulator out. -/
theorem outD (t : Fin cfg0.N) (h3 : t.val % 4 = 3) :
    (outsAt0 m c t.val t.isLt).1 = k0_pay6 (outsAt0 m c t.val t.isLt).2 := by
  rw [accD m c t h3, outsAt0_D m c t (by omega) (by omega) (by omega) h3]
  frame_out
  simp only [read_unread_whole]
  exact congrArg k0_pay6 (acc_load _ _ _)

/-- Which block of each array a grid step works on. -/
theorem idx (t : Fin cfg0.N) : (t.val % 4 ≤ 1 → win0_0.index t = ![t.val / 4, t.val % 4]) ∧ (2 ≤ t.val % 4 → win0_1.index t = ![t.val / 4, t.val % 4 - 2])
    ∧ win0_2.index t = ![t.val % 4, 0] ∧ win0_3.index t = ![t.val / 4, 0] := by
  revert t; decide +kernel

abbrev argG : FVec Ideal S2048x2816 .bf16 := m ((c : Thread nD τ).loc main_arg0)
abbrev argU : FVec Ideal S2048x2816 .bf16 := m ((c : Thread nD τ).loc main_arg1)
abbrev argW : FVec Ideal S5632x1024 .bf16 := m ((c : Thread nD τ).loc main_arg3)

/-- The two gradients side by side: the gate's in the first 2816 columns, the up projection's in the rest. -/
def both (G U : FVec Ideal S2048x2816 .bf16) (t : Fin 2048) (n : Fin 5632) : EReal :=
  if h : n.val < 2816 then G (ix2 t ⟨n.val, h⟩) else U (ix2 t ⟨n.val - 2816, by omega⟩)

/-- What the call computes: the gradient, as a sum over the whole summed axis. -/
def grad (G U : FVec Ideal S2048x2816 .bf16) (W : FVec Ideal S5632x1024 .bf16) : FVec Ideal S2048x1024 .bf16 :=
  fun j => (∑ n : Fin 5632, both G U (j 0) n * (W (ix2 n (j 1)) : EReal) : EReal)

/-- The block of gradients that a grid step multiplies: the gate's in the first two steps of a row tile. -/
def lhs (t : Fin cfg0.N) : FVec Ideal S1024x1408 .bf16 := if t.val % 4 ≤ 1 then iblk m c 0 t else iblk m c 1 t

/-- One grid step's product at an element of its block. -/
def part (t : Fin cfg0.N) (y : S1024x1024.Idx) : EReal :=
  let B : FVec Ideal S1408x1024 .bf16 := iblk m c 2 t
  ∑ k : Fin 1408, (lhs m c t (ix2 (y 0) k) : EReal) * (B (ix2 k (y 1)) : EReal)

/-- The cleared accumulator. -/
theorem zero_apply (y : S1024x1024.Idx) : (k0_pay1 (F := Ideal) y : EReal) = 0 := by
  pointwise [k0_pay1]

/-- The first step, with the array it chooses. -/
theorem acc_first (t : Fin cfg0.N) (h : t.val % 4 = 0) :
    (outsAt0 m c t.val t.isLt).2 = step (lhs m c t) (iblk m c 2 t) k0_pay1 := by
  rw [lhs, if_pos (by omega)]
  exact accA m c t h

/-- Every later step, with the array it chooses. -/
theorem acc_next (t : Fin cfg0.N) (h : ¬t.val % 4 = 0) :
    (outsAt0 m c t.val t.isLt).2 = step (lhs m c t) (iblk m c 2 t) (outsAt0 m c (t.val - 1) (Nat.lt_of_le_of_lt (Nat.sub_le _ _) t.isLt)).2 := by
  unfold lhs
  by_cases h1 : t.val % 4 ≤ 1
  · rw [if_pos h1]
    exact accB m c t h h1
  · rw [if_neg h1]
    by_cases h3 : t.val % 4 = 3
    · exact accD m c t h3
    · exact accC m c t (by omega) h3

/-- The accumulator at a point that writes back: the four partial products of its row tile. -/
theorem acc_sum (t : Fin cfg0.N) (ht : t.val % 4 = 3) (y : S1024x1024.Idx) :
    ((outsAt0 m c t.val t.isLt).2 y : EReal) = 0 + ∑ s : Fin 4, part m c ⟨4 * (t.val / 4) + s.val, Pipeline.run_point_lt_of_flush (J := 4) t ht s⟩ y :=
  Pipeline.eq_sum_fin_of_reset_step_apply_of_flush (M := EReal) (fun n h => (outsAt0 m c n h).2) 4 (fun _ => 0) (part m c)
    (fun t h i => by
      have e := congrFun (acc_first m c t h) i
      exact e.trans (congrArg (fun p : EReal => p + part m c t i) (zero_apply i)))
    (fun t h i => congrFun (acc_next m c t h) i)
    t ht y

/-- The array after the last grid step: each element lies in the block of one step. -/
theorem final : (dats m 0 c).arrAt 3 cfg0.N = grad (argG m c) (argU m c) (argW m c) := by
  refine (dats m 0 c).arrAt_eq_of_covers 3 _ (by decide +kernel) fun t hf y => ?_
  have ht := (flush0_3 t).mp hf
  have it := idx t
  blk_simp
  rw [after0_3, outD m c t ht]
  refine (acc_sum m c t ht y).trans ((zero_add _).trans ?_)
  refine Fin.sum_mul_add_congr fun s k hl => ?_
  have is := idx ⟨4 * (t.val / 4) + s.val, Pipeline.run_point_lt_of_flush (J := 4) t ht s⟩
  have hs : (4 * (t.val / 4) + s.val) % 4 = s.val := by omega
  have hk : k.val < 1408 := k.isLt
  refine congrArg₂ (fun p q : EReal => p * q) ?_ ?_
  · unfold lhs both
    by_cases h : s.val ≤ 1
    · rw [if_pos (by show (4 * (t.val / 4) + s.val) % 4 ≤ 1; omega), dif_pos (by show s.val * 1408 + k.val < 2816; omega)]
      have i0 := is.1 (by show (4 * (t.val / 4) + s.val) % 4 ≤ 1; omega)
      blk_ext [iblk, V, it, i0]
    · rw [if_neg (by show ¬(4 * (t.val / 4) + s.val) % 4 ≤ 1; omega), dif_neg (by show ¬s.val * 1408 + k.val < 2816; omega)]
      have i1 := is.2.1 (by show 2 ≤ (4 * (t.val / 4) + s.val) % 4; omega)
      blk_ext [iblk, V, it, i1]
  · blk_ext [iblk, V, it, is]

/-- The reference's product, read element by element: the padded gradients add up to the two side by side. -/
theorem ref (G U : FVec Ideal S2048x2816 .bf16) (W : FVec Ideal S5632x1024 .bf16) :
    (truncf .bf16 (Host.dotGeneral Cert.Reference4Ideal.dot_S2048x5632_S5632x1024_S2048x1024_1_0_0_1_n_n none (addf (pad Cert.Reference4Ideal.S2048x5632 ![0, 2816] ![0, 0] ![0, 0] (extf .f32 U bitsLt_bf16_f32) (constant Cert.Reference4Ideal.S_ .f32 0x00000000#32) Cert.Reference4Ideal.Gen.pads_S2048x2816_S2048x5632_000_281600 Cert.Reference4Ideal.Gen.h_S_) (pad Cert.Reference4Ideal.S2048x5632 ![0, 0] ![0, 2816] ![0, 0] (extf .f32 G bitsLt_bf16_f32) (constant Cert.Reference4Ideal.S_ .f32 0x00000000#32) Cert.Reference4Ideal.Gen.pads_S2048x2816_S2048x5632_000_028160 Cert.Reference4Ideal.Gen.h_S_)) W) bitsLt_bf16_f32 : FVec Ideal S2048x1024 .bf16)
      = grad G U W := by
  funext j
  pointwise [grad]
  refine Finset.sum_congr rfl fun k _ => congrArg₂ (fun p q : EReal => p * q) ?_ rfl
  unfold both
  by_cases h : k.val < 2816
  · simp only [h, show ¬(2816 ≤ k.val ∧ k.val - 2816 < 2816) by omega, ↓reduceDIte, zero_add]
  · have hk : k.val < 5632 := k.isLt
    simp only [h, show 2816 ≤ k.val ∧ k.val - 2816 < 2816 by omega, and_self, ↓reduceDIte, add_zero]

/-- Over the reals the call and its reference leave the same result. -/
theorem algebraic : Cert.algebraic_Kernel4Ideal_Reference4Ideal := fun m ρ m' ρ' _ hm => by
  refine ⟨fun c => grad (argG m c) (argU m c) (argW m c),
    (θ_run Cert.Kernel4Ideal.defs _ _).mono (fun r h c => ⟨(h c).1.trans (final m c), (h c).2⟩) (Cert.Kernel4Ideal.Value.run_blocks m ρ),
    (θ_run Cert.Reference4Ideal.defs _ _).mono (fun r h c => ⟨(h c).1.trans ?_, (h c).2⟩) (Cert.Reference4Ideal.Value.run m' ρ')⟩
  rw [(hm c).1, (hm c).2.1, (hm c).2.2.2]
  exact ref _ _ _

end Cert.Kernel4Ideal.GateUpX
-- ==== Proof.GateUpW.lean ====
/-
  The gradient of the gate/up weight: the two gradients side by side, transposed, times the saved activations.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel5Ideal.GateUpW

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : (t.val < 2 → win0_0.index t = ![0, t.val]) ∧ (2 ≤ t.val → win0_1.index t = ![0, t.val - 2]) ∧ win0_2.index t = ![0, 0] ∧ win0_3.index t = ![t.val, 0] := by
  revert t; decide +kernel

abbrev argG : FVec Ideal S2048x2816 .bf16 := m ((c : Thread nD τ).loc main_arg0)
abbrev argU : FVec Ideal S2048x2816 .bf16 := m ((c : Thread nD τ).loc main_arg1)
abbrev argH : FVec Ideal S2048x1024 .bf16 := m ((c : Thread nD τ).loc main_arg2)

/-- The two gradients side by side: the gate's in the first 2816 columns, the up projection's in the rest. -/
def both (G U : FVec Ideal S2048x2816 .bf16) (t : Fin 2048) (n : Fin 5632) : EReal :=
  if h : n.val < 2816 then G (ix2 t ⟨n.val, h⟩) else U (ix2 t ⟨n.val - 2816, by omega⟩)

/-- What the call computes: the gradient, as a sum over the whole summed axis. -/
def grad (G U : FVec Ideal S2048x2816 .bf16) (H : FVec Ideal S2048x1024 .bf16) : FVec Ideal S5632x1024 .bf16 :=
  fun j => (∑ t : Fin 2048, both G U t (j 0) * (H (ix2 t (j 1)) : EReal) : EReal)

/-- The first two steps multiply blocks of the gate's gradient. -/
theorem outA (t : Fin cfg0.N) (h : t.val < 2) : outsAt0 m c t.val t.isLt = k0_pay1 (iblk m c 0 t) (iblk m c 2 t) := by
  rw [outsAt0_A m c t h (by omega)]
  frame_out

/-- The last two multiply blocks of the up projection's. -/
theorem outB (t : Fin cfg0.N) (h : ¬t.val < 2) : outsAt0 m c t.val t.isLt = k0_pay2 (iblk m c 1 t) (iblk m c 2 t) := by
  rw [outsAt0_B m c t h (by omega)]
  frame_out

/-- The array after the last grid step: each element lies in the block of one step. -/
theorem final : (dats m 0 c).arrAt 3 cfg0.N = grad (argG m c) (argU m c) (argH m c) := by
  refine (dats m 0 c).arrAt_eq_of_covers 3 _ (by decide +kernel) fun t hf y => ?_
  have i2 := (idx t).2.2
  blk_simp
  rw [after0_3]
  have hy : (y 0).val < 1408 := (y 0).isLt
  have e : ((((View.whole main_v0).slice (win0_3.rect t)).emb y : S5632x1024.Idx) 0).val = t.val * 1408 + (y 0).val := by
    have e' : ((((View.whole main_v0).slice (win0_3.rect t)).emb y : S5632x1024.Idx) 0).val = win0_3.index t 0 * 1408 + 1 * (y 0).val := rfl
    rw [e', i2.2]
    simp
  by_cases ht : t.val < 2
  · rw [outA m c t ht]
    have i0 := (idx t).1 ht
    pointwise [k0_pay1, grad]
    show @Eq EReal _ _
    refine Finset.sum_congr rfl fun k _ => congrArg₂ (fun p q : EReal => p * q) ?_ ?_
    · unfold both
      rw [dif_pos (by rw [e]; omega)]
      blk_ext [iblk, V, i0, i2]
    · blk_ext [iblk, V, i0, i2]
  · rw [outB m c t ht]
    have i1 := (idx t).2.1 (by omega)
    pointwise [k0_pay2, grad]
    show @Eq EReal _ _
    refine Finset.sum_congr rfl fun k _ => congrArg₂ (fun p q : EReal => p * q) ?_ ?_
    · unfold both
      rw [dif_neg (by rw [e]; omega)]
      blk_ext [iblk, V, i1, i2]
    · blk_ext [iblk, V, i1, i2]

/-- The reference's product, read element by element: the padded gradients add up to the two side by side. -/
theorem ref (G U : FVec Ideal S2048x2816 .bf16) (H : FVec Ideal S2048x1024 .bf16) :
    (truncf .bf16 (Host.dotGeneral Cert.Reference5Ideal.dot_S2048x5632_S2048x1024_S5632x1024_0_0_1_1_n_n none (addf (pad Cert.Reference5Ideal.S2048x5632 ![0, 2816] ![0, 0] ![0, 0] (extf .f32 U bitsLt_bf16_f32) (constant Cert.Reference5Ideal.S_ .f32 0x00000000#32) Cert.Reference5Ideal.Gen.pads_S2048x2816_S2048x5632_000_281600 Cert.Reference5Ideal.Gen.h_S_) (pad Cert.Reference5Ideal.S2048x5632 ![0, 0] ![0, 2816] ![0, 0] (extf .f32 G bitsLt_bf16_f32) (constant Cert.Reference5Ideal.S_ .f32 0x00000000#32) Cert.Reference5Ideal.Gen.pads_S2048x2816_S2048x5632_000_028160 Cert.Reference5Ideal.Gen.h_S_)) H) bitsLt_bf16_f32 : FVec Ideal S5632x1024 .bf16)
      = grad G U H := by
  funext j
  pointwise [grad]
  refine Finset.sum_congr rfl fun k _ => congrArg₂ (fun p q : EReal => p * q) ?_ rfl
  unfold both
  by_cases h : (j 0).val < 2816
  · simp only [h, show ¬(2816 ≤ (j 0).val ∧ (j 0).val - 2816 < 2816) by omega, ↓reduceDIte, zero_add]
  · have hj : (j 0).val < 5632 := (j 0).isLt
    simp only [h, show 2816 ≤ (j 0).val ∧ (j 0).val - 2816 < 2816 by omega, and_self, ↓reduceDIte, add_zero]

/-- Over the reals the call and its reference leave the same result. -/
theorem algebraic : Cert.algebraic_Kernel5Ideal_Reference5Ideal := fun m ρ m' ρ' _ hm => by
  refine ⟨fun c => grad (argG m c) (argU m c) (argH m c),
    (θ_run Cert.Kernel5Ideal.defs _ _).mono (fun r h c => ⟨(h c).1.trans (final m c), (h c).2⟩) (Cert.Kernel5Ideal.Value.run_blocks m ρ),
    (θ_run Cert.Reference5Ideal.defs _ _).mono (fun r h c => ⟨(h c).1.trans ?_, (h c).2⟩) (Cert.Reference5Ideal.Value.run m' ρ')⟩
  rw [(hm c).1, (hm c).2.1, (hm c).2.2.1]
  exact ref _ _ _

end Cert.Kernel5Ideal.GateUpW
-- ==== Proof.DownW.lean ====
/-
  The gradient of the down projection's weight.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.DownW

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, t.val] ∧ win0_1.index t = ![0, 0] ∧ win0_2.index t = ![t.val, 0] := by
  revert t; decide +kernel

abbrev argX : FVec Ideal S2048x1024 .bf16 := m ((c : Thread nD τ).loc main_arg0)
abbrev argA : FVec Ideal S2048x2816 .bf16 := m ((c : Thread nD τ).loc main_arg1)

/-- What the call computes: the gradient, as a sum over the whole summed axis. -/
def grad : FVec Ideal S2816x1024 .bf16 := fun j => (∑ t : Fin 2048, (argA m c (ix2 t (j 0)) : EReal) * (argX m c (ix2 t (j 1)) : EReal) : EReal)

/-- The array after the last grid step: each element lies in the block of one step. -/
theorem final : (dats m 0 c).arrAt 2 cfg0.N = grad m c := by
  refine (dats m 0 c).arrAt_eq_of_covers 2 _ (by decide +kernel) fun t hf y => ?_
  blk_simp
  rw [after0_2]
  unfold out0_2
  canon_tiles x h
  all_goals pointwise [k0_pay1, grad]
  all_goals refine Finset.sum_congr rfl fun k _ => congrArg₂ (fun p q : EReal => p * q) ?_ ?_
  all_goals blk_ext [iblk, V, idx t]

/-- The reference's product, read element by element: the factors stand in the other order. -/
theorem ref (X : FVec Ideal S2048x1024 .bf16) (A : FVec Ideal S2048x2816 .bf16) :
    (truncf .bf16 (transpose S2816x1024 [1, 0] (Host.dotGeneral Cert.Reference6Ideal.dot_S2048x1024_S2048x2816_S1024x2816_0_0_1_1_n_n none (extf .f32 X bitsLt_bf16_f32) A) Cert.Reference6Ideal.Gen.transposes_S1024x2816_S2816x1024_1_0) bitsLt_bf16_f32 : FVec Ideal S2816x1024 .bf16)
      = fun j => (∑ t : Fin 2048, (A (ix2 t (j 0)) : EReal) * (X (ix2 t (j 1)) : EReal) : EReal) := by
  funext j
  pointwise
  exact Finset.sum_congr rfl fun k _ => mul_comm _ _

/-- Over the reals the call and its reference leave the same result. -/
theorem algebraic : Cert.algebraic_Kernel6Ideal_Reference6Ideal := fun m ρ m' ρ' _ hm => by
  refine ⟨fun c => grad m c,
    (θ_run Cert.Kernel6Ideal.defs _ _).mono (fun r h c => ⟨(h c).1.trans (final m c), (h c).2⟩) (Cert.Kernel6Ideal.Value.run_blocks m ρ),
    (θ_run Cert.Reference6Ideal.defs _ _).mono (fun r h c => ⟨(h c).1.trans ?_, (h c).2⟩) (Cert.Reference6Ideal.Value.run m' ρ')⟩
  rw [(hm c).1, (hm c).2.1]
  exact ref _ _

end Cert.Kernel6Ideal.DownW
-- ==== Proof.Sigmoid.lean ====
/-
  The logistic function, as the kernels write it with a hyperbolic tangent and as one over one plus an exponential.
-/
module

public import Idealize.ShloMosaic.Lib.Pointwise

@[expose] public section

noncomputable section

namespace Cert.Sigmoid

open Idealize.ShloMosaic

/-- On the real line. -/
theorem real (x : ℝ) : 1 / 2 * Real.tanh (1 / 2 * x) + 1 / 2 = 1 / (1 + Real.exp (-x)) := by
  have h : Real.exp (-x) = Real.exp (-(1 / 2 * x)) * Real.exp (-(1 / 2 * x)) := by
    rw [← Real.exp_add]; congr 1; ring
  have hp := Real.exp_pos (-(1 / 2 * x))
  have hq := Real.exp_pos (1 / 2 * x)
  have hpq : Real.exp (1 / 2 * x) * Real.exp (-(1 / 2 * x)) = 1 := by rw [← Real.exp_add]; simp
  rw [Real.tanh_eq_sinh_div_cosh, Real.sinh_eq, Real.cosh_eq, h]
  generalize Real.exp (-(1 / 2 * x)) = p at *
  generalize Real.exp (1 / 2 * x) = q at *
  have : q = 1 / p := by field_simp; linarith
  subst this
  field_simp
  ring

/-- On the extended reals, the infinities included. -/
theorem eq (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot]
    show _ = Ideal.div 1 (1 + Ideal.exp (- ⊥))
    rw [EReal.neg_bot]
    show _ = Ideal.div 1 (1 + ⊤)
    rw [show (1 : EReal) + ⊤ = ⊤ from rfl, Ideal.div, if_neg (by simp), EReal.inv_top, mul_zero]
    rw [show (-1 : EReal) = ((-1 : ℝ) : EReal) by norm_num, ← EReal.coe_mul, ← EReal.coe_add]
    norm_num
  | top =>
    rw [EReal.coe_mul_top_of_pos (by norm_num), Ideal.tanh_top]
    show _ = Ideal.div 1 (1 + Ideal.exp (- ⊤))
    rw [EReal.neg_top]
    show _ = Ideal.div 1 (1 + 0)
    rw [add_zero, show (1 : EReal) = ((1 : ℝ) : EReal) by norm_num, Ideal.div_coe one_ne_zero, ← EReal.coe_mul, ← EReal.coe_add, ← EReal.coe_mul]
    norm_num
  | coe r =>
    rw [← EReal.coe_mul, Ideal.tanh_coe, ← EReal.coe_mul, ← EReal.coe_add, real]
    show _ = Ideal.div 1 (1 + Ideal.exp (-(r : EReal)))
    rw [← EReal.coe_neg]
    show _ = Ideal.div 1 (1 + ((Real.exp (-r) : ℝ) : EReal))
    rw [show (1 : EReal) = ((1 : ℝ) : EReal) by norm_num, ← EReal.coe_add, Ideal.div_coe (by positivity), ← EReal.coe_mul]
    norm_num

/-- The pattern the kernels write for one half. -/
theorem half : Ideal.ofBits .f32 0x3F000000#32 = ((1 / 2 : ℝ) : EReal) := by
  simp [Ideal.ofBits, Ideal.ieee, -EReal.coe_mul]; norm_num

/-- The kernels' expression, as it stands in a printed payload. -/
theorem kernel (x : EReal) : Ideal.ofBits .f32 1056964608#32 * Ideal.tanh (Ideal.ofBits .f32 1056964608#32 * x) + Ideal.ofBits .f32 1056964608#32 = Ideal.logistic x := by
  rw [half]; exact eq x

end Cert.Sigmoid

end
-- ==== Proof.DownX.lean ====
/-
  The gradients of the gate and of the up projection.
-/
module

public import proofs.«01_k».proof.Defs
public import proofs.«01_k».proof.Proof.Gen.Kernel7Ideal.Value
public import proofs.«01_k».proof.Proof.Gen.Reference7Ideal.Run
public import proofs.«01_k».proof.Proof.Sigmoid
public import proofs.«01_k».proof.Proof.Gen.Pre_finite7
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.DownX

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, 0] ∧ win0_1.index t = ![t.val, 0] ∧ win0_2.index t = ![0, t.val] ∧ win0_3.index t = ![0, t.val] ∧ win0_4.index t = ![0, t.val] ∧ win0_5.index t = ![0, t.val] := by
  revert t; decide +kernel

abbrev ct : FVec Ideal S2048x1024 .bf16 := m ((c : Thread nD τ).loc main_arg0)
abbrev argW : FVec Ideal S2816x1024 .bf16 := m ((c : Thread nD τ).loc main_arg1)
abbrev argG : FVec Ideal S2048x2816 .bf16 := m ((c : Thread nD τ).loc main_arg2)
abbrev argU : FVec Ideal S2048x2816 .bf16 := m ((c : Thread nD τ).loc main_arg3)

/-- The gradient of the gated product: the incoming gradient times the transposed weight. -/
def grad (C : FVec Ideal S2048x1024 .bf16) (W : FVec Ideal S2816x1024 .bf16) : FVec Ideal S2048x2816 .bf16 :=
  fun j => (∑ k : Fin 1024, (C (ix2 (j 0) k) : EReal) * (W (ix2 (j 1) k) : EReal) : EReal)

/-- The gate's gradient. -/
def gate (C : FVec Ideal S2048x1024 .bf16) (W : FVec Ideal S2816x1024 .bf16) (G U : FVec Ideal S2048x2816 .bf16) : FVec Ideal S2048x2816 .bf16 :=
  fun j => (((grad C W j : EReal) * (U j : EReal)) * (Ideal.logistic (G j) * (1 + (G j : EReal) * (1 - Ideal.logistic (G j)))) : EReal)

/-- The up projection's gradient. -/
def up (C : FVec Ideal S2048x1024 .bf16) (W : FVec Ideal S2816x1024 .bf16) (G : FVec Ideal S2048x2816 .bf16) : FVec Ideal S2048x2816 .bf16 :=
  fun j => ((grad C W j : EReal) * ((G j : EReal) * Ideal.logistic (G j)) : EReal)

set_option maxHeartbeats 2000000 in
/-- The array after the last grid step: each element lies in the block of one step. -/
theorem final_4 : (dats m 0 c).arrAt 4 cfg0.N = gate (ct m c) (argW m c) (argG m c) (argU m c) := by
  refine (dats m 0 c).arrAt_eq_of_covers 4 _ (by decide +kernel) fun t hf y => ?_
  blk_simp
  rw [after0_4]
  unfold out0_4
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, gate, grad]
  all_goals simp only [Cert.Sigmoid.kernel]
  all_goals refine congrArg₂ (fun p q : EReal => p * q) (congrArg₂ (fun p q : EReal => p * q) (Finset.sum_congr rfl fun k _ => congrArg₂ (fun p q : EReal => p * q) ?_ ?_) ?_) (congrArg (fun p : EReal => Ideal.logistic p * (1 + p * (1 - Ideal.logistic p))) ?_)
  all_goals blk_ext [iblk, V, idx t]

/-- The array after the last grid step: each element lies in the block of one step. -/
theorem final_5 : (dats m 0 c).arrAt 5 cfg0.N = up (ct m c) (argW m c) (argG m c) := by
  refine (dats m 0 c).arrAt_eq_of_covers 5 _ (by decide +kernel) fun t hf y => ?_
  blk_simp
  rw [after0_5]
  unfold out0_5
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, up, grad]
  all_goals simp only [Cert.Sigmoid.kernel]
  all_goals refine congrArg₂ (fun p q : EReal => p * q) (Finset.sum_congr rfl fun k _ => congrArg₂ (fun p q : EReal => p * q) ?_ ?_) (congrArg (fun p : EReal => p * Ideal.logistic p) ?_)
  all_goals blk_ext [iblk, V, idx t]

/-- The reference's gradient of the up projection, read element by element. -/
theorem ref_up (C : FVec Ideal S2048x1024 .bf16) (W : FVec Ideal S2816x1024 .bf16) (G : FVec Ideal S2048x2816 .bf16) :
    (truncf .bf16 (mulf (mulf (extf .f32 G Cert.Reference7Ideal.Gen.bitsLt_bf16_f32) (Host.divf (broadcastInDim Cert.Reference7Ideal.S2048x2816 ![] Cert.Reference7Ideal.Gen.bcast_S_S2048x2816 (constant Cert.Reference7Ideal.S_ .f32 0x3F800000#32)) (addf (broadcastInDim Cert.Reference7Ideal.S2048x2816 ![] Cert.Reference7Ideal.Gen.bcast_S_S2048x2816 (constant Cert.Reference7Ideal.S_ .f32 0x3F800000#32)) (Host.exp (Host.negf (extf .f32 G Cert.Reference7Ideal.Gen.bitsLt_bf16_f32)))))) (Host.dotGeneral Cert.Reference7Ideal.dot_S2048x1024_S2816x1024_S2048x2816_1_1_0_0_n_n none (extf .f32 C Cert.Reference7Ideal.Gen.bitsLt_bf16_f32) (extf .f32 W Cert.Reference7Ideal.Gen.bitsLt_bf16_f32))) Cert.Reference7Ideal.Gen.bitsLt_bf16_f32) = up C W G := by
  funext j
  pointwise [up, grad]
  exact mul_comm _ _

/-- The logistic at minus infinity. -/
theorem logistic_bot : Ideal.logistic ⊥ = 0 := by
  show Ideal.div 1 (1 + Ideal.exp (- ⊥)) = 0
  rw [EReal.neg_bot]
  show Ideal.div 1 (1 + ⊤) = 0
  rw [show (1 : EReal) + ⊤ = ⊤ from rfl, Ideal.div, if_neg (by simp), EReal.inv_top, mul_zero]

/-- The logistic at infinity. -/
theorem logistic_top : Ideal.logistic ⊤ = 1 := by
  show Ideal.div 1 (1 + Ideal.exp (- ⊤)) = 1
  rw [EReal.neg_top]
  show Ideal.div 1 (1 + 0) = 1
  rw [add_zero, show (1 : EReal) = ((1 : ℝ) : EReal) by norm_num, Ideal.div_coe one_ne_zero, ← EReal.coe_mul]
  norm_num

/-- The logistic of a real number is a real number. -/
theorem logistic_coe (r : ℝ) : ∃ s : ℝ, Ideal.logistic (r : EReal) = (s : EReal) :=
  ⟨_, by
    rw [← Cert.Sigmoid.eq, ← EReal.coe_mul, Ideal.tanh_coe, ← EReal.coe_mul, ← EReal.coe_add]⟩

/-- The two forms of the gate's gradient agree where the gradient of the gated product times the up projection is a real
    number. -/
theorem gate_eq (d : ℝ) (g : EReal) :
    (d : EReal) * Ideal.logistic g + g * d * (Ideal.logistic g * (1 - Ideal.logistic g)) = d * (Ideal.logistic g * (1 + g * (1 - Ideal.logistic g))) := by
  have h1 : (1 : EReal) - 1 = 0 := by
    rw [show (1 : EReal) = ((1 : ℝ) : EReal) by norm_num, ← EReal.coe_sub]; norm_num
  induction g with
  | bot => rw [logistic_bot]; simp
  | top => rw [logistic_top]; simp [h1]
  | coe r =>
    obtain ⟨s, hs⟩ := logistic_coe r
    rw [hs, show (1 : EReal) = ((1 : ℝ) : EReal) by norm_num]
    simp only [← EReal.coe_mul, ← EReal.coe_sub, ← EReal.coe_add]
    congr 1; ring

/-- A finite extended real is a real number. -/
theorem real {x : EReal} (h : x ≠ ⊤ ∧ x ≠ ⊥) : ∃ r : ℝ, x = r := ⟨x.toReal, (EReal.coe_toReal h.1 h.2).symm⟩

/-- A sum of products of finite entries is a real number. -/
theorem sum_real {K : ℕ} (f g : Fin K → EReal) (hf : ∀ k, f k ≠ ⊤ ∧ f k ≠ ⊥) (hg : ∀ k, g k ≠ ⊤ ∧ g k ≠ ⊥) : ∃ r : ℝ, ∑ k, f k * g k = r := by
  refine Finset.sum_induction _ (fun x : EReal => ∃ r : ℝ, x = r) ?_ ⟨0, by simp⟩ fun k _ => ?_
  · rintro _ _ ⟨a, rfl⟩ ⟨b, rfl⟩; exact ⟨a + b, by rw [EReal.coe_add]⟩
  · obtain ⟨a, ha⟩ := real (hf k)
    obtain ⟨b, hb⟩ := real (hg k)
    exact ⟨a * b, by rw [ha, hb, EReal.coe_mul]⟩

/-- The reference's gradient of the gate, read element by element. -/
theorem ref_gate (C : FVec Ideal S2048x1024 .bf16) (W : FVec Ideal S2816x1024 .bf16) (G U : FVec Ideal S2048x2816 .bf16)
    (hC : ∀ i, (C i : EReal) ≠ ⊤ ∧ (C i : EReal) ≠ ⊥) (hW : ∀ i, (W i : EReal) ≠ ⊤ ∧ (W i : EReal) ≠ ⊥) (hU : ∀ i, (U i : EReal) ≠ ⊤ ∧ (U i : EReal) ≠ ⊥) :
    (truncf .bf16 (addf (mulf (mulf (Host.dotGeneral Cert.Reference7Ideal.dot_S2048x1024_S2816x1024_S2048x2816_1_1_0_0_n_n none (extf .f32 C Cert.Reference7Ideal.Gen.bitsLt_bf16_f32) (extf .f32 W Cert.Reference7Ideal.Gen.bitsLt_bf16_f32)) (extf .f32 U Cert.Reference7Ideal.Gen.bitsLt_bf16_f32)) (Host.divf (broadcastInDim Cert.Reference7Ideal.S2048x2816 ![] Cert.Reference7Ideal.Gen.bcast_S_S2048x2816 (constant Cert.Reference7Ideal.S_ .f32 0x3F800000#32)) (addf (broadcastInDim Cert.Reference7Ideal.S2048x2816 ![] Cert.Reference7Ideal.Gen.bcast_S_S2048x2816 (constant Cert.Reference7Ideal.S_ .f32 0x3F800000#32)) (Host.exp (Host.negf (extf .f32 G Cert.Reference7Ideal.Gen.bitsLt_bf16_f32)))))) (mulf (mulf (extf .f32 G Cert.Reference7Ideal.Gen.bitsLt_bf16_f32) (mulf (Host.dotGeneral Cert.Reference7Ideal.dot_S2048x1024_S2816x1024_S2048x2816_1_1_0_0_n_n none (extf .f32 C Cert.Reference7Ideal.Gen.bitsLt_bf16_f32) (extf .f32 W Cert.Reference7Ideal.Gen.bitsLt_bf16_f32)) (extf .f32 U Cert.Reference7Ideal.Gen.bitsLt_bf16_f32))) (mulf (Host.divf (broadcastInDim Cert.Reference7Ideal.S2048x2816 ![] Cert.Reference7Ideal.Gen.bcast_S_S2048x2816 (constant Cert.Reference7Ideal.S_ .f32 0x3F800000#32)) (addf (broadcastInDim Cert.Reference7Ideal.S2048x2816 ![] Cert.Reference7Ideal.Gen.bcast_S_S2048x2816 (constant Cert.Reference7Ideal.S_ .f32 0x3F800000#32)) (Host.exp (Host.negf (extf .f32 G Cert.Reference7Ideal.Gen.bitsLt_bf16_f32))))) (subf (broadcastInDim Cert.Reference7Ideal.S2048x2816 ![] Cert.Reference7Ideal.Gen.bcast_S_S2048x2816 (constant Cert.Reference7Ideal.S_ .f32 0x3F800000#32)) (Host.divf (broadcastInDim Cert.Reference7Ideal.S2048x2816 ![] Cert.Reference7Ideal.Gen.bcast_S_S2048x2816 (constant Cert.Reference7Ideal.S_ .f32 0x3F800000#32)) (addf (broadcastInDim Cert.Reference7Ideal.S2048x2816 ![] Cert.Reference7Ideal.Gen.bcast_S_S2048x2816 (constant Cert.Reference7Ideal.S_ .f32 0x3F800000#32)) (Host.exp (Host.negf (extf .f32 G Cert.Reference7Ideal.Gen.bitsLt_bf16_f32))))))))) Cert.Reference7Ideal.Gen.bitsLt_bf16_f32) = gate C W G U := by
  funext j
  pointwise [gate, grad]
  obtain ⟨a, ha⟩ := sum_real (fun k : Fin 1024 => (C (ix2 (j 0) k) : EReal)) (fun k => W (ix2 (j 1) k)) (fun _ => hC _) (fun _ => hW _)
  obtain ⟨u, hu⟩ := real (hU j)
  refine Eq.trans ?_ ((gate_eq (a * u) (G j)).trans ?_)
  · rw [EReal.coe_mul, ← ha, ← hu]; rfl
  · rw [EReal.coe_mul, ← ha, ← hu]

/-- The precondition's comparison, read at an element. -/
theorem below (x : EReal) (h : FloatOps.cmpf (F := Ideal) (φ := .f32) .olt (FloatOps.absf (F := Ideal) (φ := .f32) x) (Ideal.ofBits .f32 0x7F800000#32) = 1#1) : x ≠ ⊤ ∧ x ≠ ⊥ := by
  have t : Ideal.ofBits .f32 0x7F800000#32 = ⊤ := by simp [Ideal.ofBits, Ideal.ieee]
  have l : max x (-x) < ⊤ := by
    by_contra n
    rw [t] at h
    have z : Ideal.cmp .olt (max x (-x)) ⊤ = 1#1 := h
    simp [Ideal.cmp, n] at z
  constructor
  · rintro rfl; simp at l
  · rintro rfl; simp at l

/-- What the precondition says of the three arrays. -/
theorem decode [Cert.Pre_finite7.Facts] (C : FVec Ideal S2048x1024 .bf16) (W : FVec Ideal S2816x1024 .bf16) (G U : FVec Ideal S2048x2816 .bf16)
    (h : Cert.Pre_finite7.fn (F := Ideal) C W G U = fun _ => 1#1) :
    (∀ i, (C i : EReal) ≠ ⊤ ∧ (C i : EReal) ≠ ⊥) ∧ (∀ i, (W i : EReal) ≠ ⊤ ∧ (W i : EReal) ≠ ⊥) ∧ ∀ i, (U i : EReal) ≠ ⊤ ∧ (U i : EReal) ≠ ⊥ := by
  have e := congrFun h (fun a => a.elim0)
  simp only [Cert.Pre_finite7.fn, andi, IntOp.andi_eq_one] at e
  have : Subsingleton Cert.Pre_finite7.S_.Idx := ⟨fun a b => funext fun k => k.elim0⟩
  exact ⟨fun i => below _ (Host.reduce_andi_all _ _ _ _ _ e.1.1 i), fun i => below _ (Host.reduce_andi_all _ _ _ _ _ e.1.2 i),
    fun i => below _ (Host.reduce_andi_all _ _ _ _ _ e.2 i)⟩

/-- Over the reals the call and its reference leave the same results, wherever the precondition holds. -/
theorem algebraic : Cert.algebraic_Kernel7Ideal_Reference7Ideal_pre_finite7 := fun m ρ m' ρ' hp hm => by
  have dec := fun c => decode _ _ _ _ (hp c)
  refine ⟨fun c => gate (ct m c) (argW m c) (argG m c) (argU m c), fun c => up (ct m c) (argW m c) (argG m c),
    (θ_run Cert.Kernel7Ideal.defs _ _).mono (fun r h c => ⟨(h c).1.trans (final_4 m c), (h c).2.1.trans (final_5 m c), (h c).2.2⟩) (Cert.Kernel7Ideal.Value.run_blocks m ρ),
    (θ_run Cert.Reference7Ideal.defs _ _).mono (fun r h c => ⟨(h c).1.trans ?_, (h c).2.1.trans ?_, (h c).2.2⟩) (Cert.Reference7Ideal.Value.run m' ρ')⟩
  · rw [(hm c).1, (hm c).2.1, (hm c).2.2.1, (hm c).2.2.2]
    exact ref_gate _ _ _ _ (dec c).1 (dec c).2.1 (dec c).2.2
  · rw [(hm c).1, (hm c).2.1, (hm c).2.2.1]
    exact ref_up _ _ _

end Cert.Kernel7Ideal.DownX

end
-- ==== Proof.MixW.lean ====
/-
  The gradients of the three weights of the mixer's output side.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.MixW

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, t.val] ∧ win0_1.index t = ![0, t.val] ∧ win0_2.index t = ![0, t.val] ∧ win0_3.index t = ![0, 0] ∧ win0_4.index t = ![0, 0] ∧ win0_5.index t = ![0, 0] ∧ win0_6.index t = ![t.val, 0] ∧ win0_7.index t = ![t.val, 0] ∧ win0_8.index t = ![t.val, 0] := by
  revert t; decide +kernel

abbrev argY : FVec Ideal S2048x1024 .bf16 := m ((c : Thread nD τ).loc main_arg0)
abbrev argA : FVec Ideal S2048x1024 .bf16 := m ((c : Thread nD τ).loc main_arg1)
abbrev argM : FVec Ideal S2048x1024 .bf16 := m ((c : Thread nD τ).loc main_arg2)
abbrev ctY : FVec Ideal S2048x1024 .bf16 := m ((c : Thread nD τ).loc main_arg6)
abbrev ctA : FVec Ideal S2048x1024 .bf16 := m ((c : Thread nD τ).loc main_arg7)
abbrev ctM : FVec Ideal S2048x1024 .bf16 := m ((c : Thread nD τ).loc main_arg8)

/-- What the call computes for one weight: the saved argument, transposed, times the incoming gradient. -/
def grad (A C : FVec Ideal S2048x1024 .bf16) : FVec Ideal S1024x1024 .bf16 :=
  fun j => (∑ t : Fin 2048, (A (ix2 t (j 0)) : EReal) * (C (ix2 t (j 1)) : EReal) : EReal)

/-- The array after the last grid step: each element lies in the block of one step. -/
theorem final_6 : (dats m 0 c).arrAt 6 cfg0.N = grad (argY m c) (ctY m c) := by
  refine (dats m 0 c).arrAt_eq_of_covers 6 _ (by decide +kernel) fun t hf y => ?_
  blk_simp
  rw [after0_6]
  unfold out0_6
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, grad]
  all_goals refine Finset.sum_congr rfl fun k _ => congrArg₂ (fun p q : EReal => p * q) ?_ ?_
  all_goals blk_ext [iblk, V, idx t]

/-- The array after the last grid step: each element lies in the block of one step. -/
theorem final_7 : (dats m 0 c).arrAt 7 cfg0.N = grad (argA m c) (ctA m c) := by
  refine (dats m 0 c).arrAt_eq_of_covers 7 _ (by decide +kernel) fun t hf y => ?_
  blk_simp
  rw [after0_7]
  unfold out0_7
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, grad]
  all_goals refine Finset.sum_congr rfl fun k _ => congrArg₂ (fun p q : EReal => p * q) ?_ ?_
  all_goals blk_ext [iblk, V, idx t]

/-- The array after the last grid step: each element lies in the block of one step. -/
theorem final_8 : (dats m 0 c).arrAt 8 cfg0.N = grad (argM m c) (ctM m c) := by
  refine (dats m 0 c).arrAt_eq_of_covers 8 _ (by decide +kernel) fun t hf y => ?_
  blk_simp
  rw [after0_8]
  unfold out0_8
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, grad]
  all_goals refine Finset.sum_congr rfl fun k _ => congrArg₂ (fun p q : EReal => p * q) ?_ ?_
  all_goals blk_ext [iblk, V, idx t]

/-- The reference's product, read element by element: the factors stand in the other order. -/
theorem ref (A C : FVec Ideal S2048x1024 .bf16) :
    (truncf .bf16 (transpose Cert.Reference8Ideal.S1024x1024 [1, 0] (Host.dotGeneral Cert.Reference8Ideal.dot_S2048x1024_S2048x1024_S1024x1024_0_0_1_1_n_n none (extf .f32 C Cert.Reference8Ideal.Gen.bitsLt_bf16_f32) A) Cert.Reference8Ideal.Gen.transposes_S1024x1024_S1024x1024_1_0) Cert.Reference8Ideal.Gen.bitsLt_bf16_f32) = grad A C := by
  funext j
  pointwise [grad]
  exact Finset.sum_congr rfl fun k _ => mul_comm _ _

/-- Over the reals the call and its reference leave the same results. -/
theorem algebraic : Cert.algebraic_Kernel8Ideal_Reference8Ideal := fun m ρ m' ρ' _ hm => by
  refine ⟨fun c => grad (argY m c) (ctY m c), fun c => grad (argA m c) (ctA m c), fun c => grad (argM m c) (ctM m c),
    (θ_run Cert.Kernel8Ideal.defs _ _).mono (fun r h c => ⟨(h c).1.trans (final_6 m c), (h c).2.1.trans (final_7 m c), (h c).2.2.1.trans (final_8 m c), (h c).2.2.2⟩) (Cert.Kernel8Ideal.Value.run_blocks m ρ),
    (θ_run Cert.Reference8Ideal.defs _ _).mono (fun r h c => ⟨(h c).1.trans ?_, (h c).2.1.trans ?_, (h c).2.2.1.trans ?_, (h c).2.2.2⟩) (Cert.Reference8Ideal.Value.run m' ρ')⟩
  · rw [(hm c).1, (hm c).2.2.2.2.2.2.1]
    exact ref _ _
  · rw [(hm c).2.1, (hm c).2.2.2.2.2.2.2.1]
    exact ref _ _
  · rw [(hm c).2.2.1, (hm c).2.2.2.2.2.2.2.2]
    exact ref _ _

end Cert.Kernel8Ideal.MixW

end
-- ==== Proof.BranchX.lean ====
/-
  The gradients of the two branches' outputs before their projections.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel9Ideal.BranchX

open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, 0] ∧ win0_1.index t = ![0, 0] ∧ win0_2.index t = ![t.val, 0] ∧ win0_3.index t = ![t.val, 0] ∧ win0_4.index t = ![0, t.val] ∧ win0_5.index t = ![0, t.val] := by
  revert t; decide +kernel

abbrev argC : FVec Ideal S1024x1024 .bf16 := m ((c : Thread nD τ).loc main_arg2)
abbrev argA : FVec Ideal S1024x1024 .bf16 := m ((c : Thread nD τ).loc main_arg3)
abbrev ctC : FVec Ideal S2048x1024 .bf16 := m ((c : Thread nD τ).loc main_arg4)
abbrev ctA : FVec Ideal S2048x1024 .bf16 := m ((c : Thread nD τ).loc main_arg5)

/-- What the call computes for one branch: the incoming gradient times the transposed weight. -/
def grad (C : FVec Ideal S2048x1024 .bf16) (W : FVec Ideal S1024x1024 .bf16) : FVec Ideal S2048x1024 .bf16 :=
  fun j => (∑ k : Fin 1024, (C (ix2 (j 0) k) : EReal) * (W (ix2 (j 1) k) : EReal) : EReal)

/-- The array after the last grid step: each element lies in the block of one step. -/
theorem final_4 : (dats m 0 c).arrAt 4 cfg0.N = grad (ctC m c) (argC m c) := by
  refine (dats m 0 c).arrAt_eq_of_covers 4 _ (by decide +kernel) fun t hf y => ?_
  blk_simp
  rw [after0_4]
  unfold out0_4
  canon_tiles x h
  all_goals pointwise [k0_pay1, k0_pay2, k0_pay3, k0_pay4, k0_pay5, k0_pay6, k0_pay7, k0_pay8, k0_pay9, k0_pay10, k0_pay11, k0_pay12, grad]
  all_goals refine Finset.sum_congr rfl fun k _ => congrArg₂ (fun p q : EReal => p * q) ?_ ?_
  all_goals blk_ext [iblk, V, idx t]

/-- The array after the last grid step: each element lies in the block of one step. -/
theorem final_5 : (dats m 0 c).arrAt 5 cfg0.N = grad (ctA m c) (argA m c) := by
  refine (dats m 0 c).arrAt_eq_of_covers 5 _ (by decide +kernel) fun t hf y => ?_
  blk_simp
  rw [after0_5]
  unfold out0_5
  canon_tiles x h
  all_goals pointwise [k0_pay1, k0_pay2, k0_pay3, k0_pay4, k0_pay5, k0_pay6, k0_pay7, k0_pay8, k0_pay9, k0_pay10, k0_pay11, k0_pay12, grad]
  all_goals refine Finset.sum_congr rfl fun k _ => congrArg₂ (fun p q : EReal => p * q) ?_ ?_
  all_goals blk_ext [iblk, V, idx t]

/-- The reference's product, read element by element. -/
theorem ref (C : FVec Ideal S2048x1024 .bf16) (W : FVec Ideal S1024x1024 .bf16) :
    (truncf .bf16 (Host.dotGeneral Cert.Reference9Ideal.dot_S2048x1024_S1024x1024_S2048x1024_1_1_0_0_n_n none (extf .f32 C Cert.Reference9Ideal.Gen.bitsLt_bf16_f32) W) Cert.Reference9Ideal.Gen.bitsLt_bf16_f32) = grad C W := by
  funext j
  pointwise [grad]

/-- Over the reals the call and its reference leave the same results. -/
theorem algebraic : Cert.algebraic_Kernel9Ideal_Reference9Ideal := fun m ρ m' ρ' _ hm => by
  refine ⟨fun c => grad (ctC m c) (argC m c), fun c => grad (ctA m c) (argA m c),
    (θ_run Cert.Kernel9Ideal.defs _ _).mono (fun r h c => ⟨(h c).1.trans (final_4 m c), (h c).2.1.trans (final_5 m c), (h c).2.2⟩) (Cert.Kernel9Ideal.Value.run_blocks m ρ),
    (θ_run Cert.Reference9Ideal.defs _ _).mono (fun r h c => ⟨(h c).1.trans ?_, (h c).2.1.trans ?_, (h c).2.2⟩) (Cert.Reference9Ideal.Value.run m' ρ')⟩
  · rw [(hm c).2.2.2.2.1, (hm c).2.2.1]
    exact ref _ _
  · rw [(hm c).2.2.2.2.2, (hm c).2.2.2.1]
    exact ref _ _

end Cert.Kernel9Ideal.BranchX

end
-- ==== Proof.ProjFwd.lean ====
/-
  The input projection.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel10Ideal.ProjFwd

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, 0] ∧ win0_1.index t = ![t.val, 0] ∧ win0_2.index t = ![0, t.val] := by
  revert t; decide +kernel

abbrev argH : FVec Ideal S2048x1024 .bf16 := m ((c : Thread nD τ).loc main_arg0)
abbrev argW : FVec Ideal S6656x1024 .bf16 := m ((c : Thread nD τ).loc main_arg1)

/-- What the call computes: each row of the argument against each row of the transposed weight. -/
def proj (H : FVec Ideal S2048x1024 .bf16) (W : FVec Ideal S6656x1024 .bf16) : FVec Ideal S2048x6656 .bf16 :=
  fun j => (∑ k : Fin 1024, (H (ix2 (j 0) k) : EReal) * (W (ix2 (j 1) k) : EReal) : EReal)

/-- The array after the last grid step: each element lies in the block of one step. -/
theorem final : (dats m 0 c).arrAt 2 cfg0.N = proj (argH m c) (argW m c) := by
  refine (dats m 0 c).arrAt_eq_of_covers 2 _ (by decide +kernel) fun t hf y => ?_
  blk_simp
  rw [after0_2]
  unfold out0_2
  canon_tiles x h
  all_goals pointwise [k0_pay1, k0_pay2, k0_pay3, k0_pay4, proj]
  all_goals refine Finset.sum_congr rfl fun k _ => congrArg₂ (fun p q : EReal => p * q) ?_ ?_
  all_goals blk_ext [iblk, V, idx t]

/-- The reference's product, read element by element. -/
theorem ref (H : FVec Ideal S2048x1024 .bf16) (W : FVec Ideal S6656x1024 .bf16) :
    (truncf .bf16 (Host.dotGeneral Cert.Reference10Ideal.dot_S2048x1024_S6656x1024_S2048x6656_1_1_0_0_n_n none H W) Cert.Reference10Ideal.Gen.bitsLt_bf16_f32) = proj H W := by
  funext j
  pointwise [proj]

/-- Over the reals the call and its reference leave the same results. -/
theorem algebraic : Cert.algebraic_Kernel10Ideal_Reference10Ideal := fun m ρ m' ρ' _ hm => by
  refine ⟨fun c => proj (argH m c) (argW m c),
    (θ_run Cert.Kernel10Ideal.defs _ _).mono (fun r h c => ⟨(h c).1.trans (final m c), (h c).2⟩) (Cert.Kernel10Ideal.Value.run_blocks m ρ),
    (θ_run Cert.Reference10Ideal.defs _ _).mono (fun r h c => ⟨(h c).1.trans ?_, (h c).2⟩) (Cert.Reference10Ideal.Value.run m' ρ')⟩
  rw [(hm c).1, (hm c).2]
  exact ref _ _

end Cert.Kernel10Ideal.ProjFwd

end
-- ==== Proof.GateUpFwd.lean ====
/-
  The gate and up projections and their gated product.
-/
module

public import proofs.«01_k».proof.Defs
public import proofs.«01_k».proof.Proof.Gen.Kernel11Ideal.Value
public import proofs.«01_k».proof.Proof.Gen.Reference11Ideal.Run
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.Kernel11Ideal.GateUpFwd

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, 0] ∧ win0_1.index t = ![t.val, 0] ∧ win0_2.index t = ![11 + t.val, 0] ∧ win0_3.index t = ![0, t.val] ∧ win0_4.index t = ![0, t.val] ∧ win0_5.index t = ![0, t.val] := by
  revert t; decide +kernel

abbrev argX : FVec Ideal S2048x1024 .bf16 := m ((c : Thread nD τ).loc main_arg0)
abbrev argW : FVec Ideal S5632x1024 .bf16 := m ((c : Thread nD τ).loc main_arg1)

/-- One half of the product: each row of the argument against a row of the transposed weight, counted from `o`. -/
def half (o : ℕ) (ho : o + 2816 ≤ 5632) (X : FVec Ideal S2048x1024 .bf16) (W : FVec Ideal S5632x1024 .bf16) : FVec Ideal S2048x2816 .bf16 :=
  fun j => (∑ k : Fin 1024, (X (ix2 (j 0) k) : EReal) * (W (ix2 ⟨o + (j 1).val, lt_of_lt_of_le (Nat.add_lt_add_left (j 1).isLt o) ho⟩ k) : EReal) : EReal)

/-- The gate. -/
abbrev gate (X : FVec Ideal S2048x1024 .bf16) (W : FVec Ideal S5632x1024 .bf16) := half 0 (by decide) X W

/-- The up projection. -/
abbrev up (X : FVec Ideal S2048x1024 .bf16) (W : FVec Ideal S5632x1024 .bf16) := half 2816 (by decide) X W

/-- The gated product: the gate times its logistic, times the up projection. -/
def act (X : FVec Ideal S2048x1024 .bf16) (W : FVec Ideal S5632x1024 .bf16) : FVec Ideal S2048x2816 .bf16 :=
  fun j => (((gate X W j : EReal) * Ideal.logistic (gate X W j)) * (up X W j : EReal) : EReal)

/-- The second half's block of the weight. -/
theorem up_blk (t : Fin cfg0.N) (i : Fin 256) (k : Fin 1024) (r : Fin 5632) (h : r.val = 2816 + (t.val * 256 + i.val)) :
    iblk m c 2 t (ix2 i k) = argW m c (ix2 r k) := by
  blk_ext [iblk, V, idx t]

/-- The array after the last grid step: each element lies in the block of one step. -/
theorem final_4 : (dats m 0 c).arrAt 4 cfg0.N = gate (argX m c) (argW m c) := by
  refine (dats m 0 c).arrAt_eq_of_covers 4 _ (by decide +kernel) fun t hf y => ?_
  blk_simp
  rw [after0_4]
  unfold out0_4
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, gate, half]
  all_goals refine Finset.sum_congr rfl fun k _ => congrArg₂ (fun p q : EReal => p * q) ?_ ?_
  all_goals blk_ext [iblk, V, idx t]

/-- The array after the last grid step: each element lies in the block of one step. -/
theorem final_5 : (dats m 0 c).arrAt 5 cfg0.N = up (argX m c) (argW m c) := by
  refine (dats m 0 c).arrAt_eq_of_covers 5 _ (by decide +kernel) fun t hf y => ?_
  blk_simp
  rw [after0_5]
  unfold out0_5
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, up, half]
  all_goals refine Finset.sum_congr rfl fun k _ => congrArg₂ (fun p q : EReal => p * q) (by blk_ext [iblk, V, idx t]) ?_
  all_goals
    refine up_blk m c t _ k _ ?_
    have e : ((((View.whole main_v0_2).slice (win0_5.rect t)).emb y : S2048x2816.Idx) 1).val = t.val * 256 + (y 1).val := by
      have e' : ((((View.whole main_v0_2).slice (win0_5.rect t)).emb y : S2048x2816.Idx) 1).val = win0_5.index t 1 * 256 + 1 * (y 1).val := rfl
      rw [e']; simp [idx t]
    refine congrArg (2816 + ·) (e.trans ?_)
    omega

/-- The array after the last grid step: each element lies in the block of one step. -/
theorem final_3 : (dats m 0 c).arrAt 3 cfg0.N = act (argX m c) (argW m c) := by
  refine (dats m 0 c).arrAt_eq_of_covers 3 _ (by decide +kernel) fun t hf y => ?_
  blk_simp
  rw [after0_3]
  unfold out0_3
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, act, gate, up, half]
  all_goals simp only [Cert.Sigmoid.kernel]
  all_goals refine congrArg₂ (fun p q : EReal => (p * Ideal.logistic p) * q) (Finset.sum_congr rfl fun k _ => congrArg₂ (fun p q : EReal => p * q) ?_ ?_) (Finset.sum_congr rfl fun k _ => congrArg₂ (fun p q : EReal => p * q) (by blk_ext [iblk, V, idx t]) ?_)
  all_goals first | (blk_ext [iblk, V, idx t]; done) | skip
  all_goals
    refine up_blk m c t _ k _ ?_
    have e : ((((View.whole main_v0_0).slice (win0_3.rect t)).emb y : S2048x2816.Idx) 1).val = t.val * 256 + (y 1).val := by
      have e' : ((((View.whole main_v0_0).slice (win0_3.rect t)).emb y : S2048x2816.Idx) 1).val = win0_3.index t 1 * 256 + 1 * (y 1).val := rfl
      rw [e']; simp [idx t]
    refine congrArg (2816 + ·) (e.trans ?_)
    omega

/-- The reference, read element by element. -/
theorem ref_act (X : FVec Ideal S2048x1024 .bf16) (W : FVec Ideal S5632x1024 .bf16) :
    (truncf .bf16 (mulf (mulf (extractStridedSlice Cert.Reference11Ideal.S2048x2816 ![0, 0] (Host.dotGeneral Cert.Reference11Ideal.dot_S2048x1024_S5632x1024_S2048x5632_1_1_0_0_n_n none X W) Cert.Reference11Ideal.Gen.slices_S2048x5632_S2048x2816_0_0) (Host.divf (broadcastInDim Cert.Reference11Ideal.S2048x2816 ![] Cert.Reference11Ideal.Gen.bcast_S_S2048x2816 (constant Cert.Reference11Ideal.S_ .f32 0x3F800000#32)) (addf (broadcastInDim Cert.Reference11Ideal.S2048x2816 ![] Cert.Reference11Ideal.Gen.bcast_S_S2048x2816 (constant Cert.Reference11Ideal.S_ .f32 0x3F800000#32)) (Host.exp (Host.negf (extractStridedSlice Cert.Reference11Ideal.S2048x2816 ![0, 0] (Host.dotGeneral Cert.Reference11Ideal.dot_S2048x1024_S5632x1024_S2048x5632_1_1_0_0_n_n none X W) Cert.Reference11Ideal.Gen.slices_S2048x5632_S2048x2816_0_0)))))) (extractStridedSlice Cert.Reference11Ideal.S2048x2816 ![0, 2816] (Host.dotGeneral Cert.Reference11Ideal.dot_S2048x1024_S5632x1024_S2048x5632_1_1_0_0_n_n none X W) Cert.Reference11Ideal.Gen.slices_S2048x5632_S2048x2816_0_2816)) Cert.Reference11Ideal.Gen.bitsLt_bf16_f32) = act X W := by
  funext j
  pointwise [act, gate, up, half]
  all_goals rfl

/-- The reference, read element by element. -/
theorem ref_gate (X : FVec Ideal S2048x1024 .bf16) (W : FVec Ideal S5632x1024 .bf16) :
    (truncf .bf16 (extractStridedSlice Cert.Reference11Ideal.S2048x2816 ![0, 0] (Host.dotGeneral Cert.Reference11Ideal.dot_S2048x1024_S5632x1024_S2048x5632_1_1_0_0_n_n none X W) Cert.Reference11Ideal.Gen.slices_S2048x5632_S2048x2816_0_0) Cert.Reference11Ideal.Gen.bitsLt_bf16_f32) = gate X W := by
  funext j
  pointwise [act, gate, up, half]
  all_goals rfl

/-- The reference, read element by element. -/
theorem ref_up (X : FVec Ideal S2048x1024 .bf16) (W : FVec Ideal S5632x1024 .bf16) :
    (truncf .bf16 (extractStridedSlice Cert.Reference11Ideal.S2048x2816 ![0, 2816] (Host.dotGeneral Cert.Reference11Ideal.dot_S2048x1024_S5632x1024_S2048x5632_1_1_0_0_n_n none X W) Cert.Reference11Ideal.Gen.slices_S2048x5632_S2048x2816_0_2816) Cert.Reference11Ideal.Gen.bitsLt_bf16_f32) = up X W := by
  funext j
  pointwise [act, gate, up, half]
  all_goals rfl

/-- Over the reals the call and its reference leave the same results. -/
theorem algebraic : Cert.algebraic_Kernel11Ideal_Reference11Ideal := fun m ρ m' ρ' _ hm => by
  refine ⟨fun c => act (argX m c) (argW m c), fun c => gate (argX m c) (argW m c), fun c => up (argX m c) (argW m c),
    (θ_run Cert.Kernel11Ideal.defs _ _).mono (fun r h c => ⟨(h c).1.trans (final_3 m c), (h c).2.1.trans (final_4 m c), (h c).2.2.1.trans (final_5 m c), (h c).2.2.2⟩) (Cert.Kernel11Ideal.Value.run_blocks m ρ),
    (θ_run Cert.Reference11Ideal.defs _ _).mono (fun r h c => ⟨(h c).1.trans ?_, (h c).2.1.trans ?_, (h c).2.2.1.trans ?_, (h c).2.2.2⟩) (Cert.Reference11Ideal.Value.run m' ρ')⟩
  · rw [(hm c).1, (hm c).2]
    exact ref_act _ _
  · rw [(hm c).1, (hm c).2]
    exact ref_gate _ _
  · rw [(hm c).1, (hm c).2]
    exact ref_up _ _

end Cert.Kernel11Ideal.GateUpFwd

end
-- ==== Proof.DownFwd.lean ====
/-
  The down projection, added to the residual.
-/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel12Ideal.DownFwd

open Cert.Kernel12Ideal Cert.Kernel12Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![t.val / 2, 0] ∧ win0_1.index t = ![0, t.val % 2] ∧ win0_2.index t = ![t.val / 2, t.val % 2] ∧ win0_3.index t = ![t.val / 2, t.val % 2] := by
  revert t; decide +kernel

abbrev argA : FVec Ideal S2048x2816 .bf16 := m ((c : Thread nD τ).loc main_arg0)
abbrev argW : FVec Ideal S2816x1024 .bf16 := m ((c : Thread nD τ).loc main_arg1)
abbrev argX : FVec Ideal S2048x1024 .f32 := m ((c : Thread nD τ).loc main_arg2)

/-- What the call computes: the residual plus the product. -/
def res (A : FVec Ideal S2048x2816 .bf16) (W : FVec Ideal S2816x1024 .bf16) (X : FVec Ideal S2048x1024 .f32) : FVec Ideal S2048x1024 .f32 :=
  fun j => ((X j : EReal) + ∑ k : Fin 2816, (A (ix2 (j 0) k) : EReal) * (W (ix2 k (j 1)) : EReal) : EReal)

/-- The array after the last grid step: each element lies in the block of one step. -/
theorem final : (dats m 0 c).arrAt 3 cfg0.N = res (argA m c) (argW m c) (argX m c) := by
  refine (dats m 0 c).arrAt_eq_of_covers 3 _ (by decide +kernel) fun t hf y => ?_
  blk_simp
  rw [after0_3]
  unfold out0_3
  canon_tiles x h
  all_goals pointwise [k0_pay1, k0_pay2, k0_pay3, k0_pay4, k0_pay5, res]
  all_goals refine (add_comm _ _).trans (congrArg₂ (fun p q : EReal => p + q) ?_ (Finset.sum_congr rfl fun k _ => congrArg₂ (fun p q : EReal => p * q) ?_ ?_))
  all_goals blk_ext [iblk, V, idx t]

/-- The reference, read element by element. -/
theorem ref (A : FVec Ideal S2048x2816 .bf16) (W : FVec Ideal S2816x1024 .bf16) (X : FVec Ideal S2048x1024 .f32) :
    (addf X (Host.dotGeneral Cert.Reference12Ideal.dot_S2048x2816_S2816x1024_S2048x1024_1_0_0_1_n_n none A W)) = res A W X := by
  funext j
  pointwise [res]

/-- Over the reals the call and its reference leave the same results. -/
theorem algebraic : Cert.algebraic_Kernel12Ideal_Reference12Ideal := fun m ρ m' ρ' _ hm => by
  refine ⟨fun c => res (argA m c) (argW m c) (argX m c),
    (θ_run Cert.Kernel12Ideal.defs _ _).mono (fun r h c => ⟨(h c).1.trans (final m c), (h c).2⟩) (Cert.Kernel12Ideal.Value.run_blocks m ρ),
    (θ_run Cert.Reference12Ideal.defs _ _).mono (fun r h c => ⟨(h c).1.trans ?_, (h c).2⟩) (Cert.Reference12Ideal.Value.run m' ρ')⟩
  rw [(hm c).1, (hm c).2.1, (hm c).2.2]
  exact ref _ _ _

end Cert.Kernel12Ideal.DownFwd

end
-- ==== Proof.OutFwd.lean ====
/-
  The mixer's output projection, added to the residual.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel13Ideal.OutFwd

open Cert.Kernel13Ideal Cert.Kernel13Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, 0] ∧ win0_1.index t = ![0, t.val] ∧ win0_2.index t = ![0, t.val] ∧ win0_3.index t = ![0, t.val] := by
  revert t; decide +kernel

abbrev argA : FVec Ideal S2048x1024 .bf16 := m ((c : Thread nD τ).loc main_arg0)
abbrev argW : FVec Ideal S1024x1024 .bf16 := m ((c : Thread nD τ).loc main_arg1)
abbrev argX : FVec Ideal S2048x1024 .f32 := m ((c : Thread nD τ).loc main_arg2)

/-- What the call computes: the residual plus the product. -/
def res (A : FVec Ideal S2048x1024 .bf16) (W : FVec Ideal S1024x1024 .bf16) (X : FVec Ideal S2048x1024 .f32) : FVec Ideal S2048x1024 .f32 :=
  fun j => ((X j : EReal) + ∑ k : Fin 1024, (A (ix2 (j 0) k) : EReal) * (W (ix2 k (j 1)) : EReal) : EReal)

/-- The array after the last grid step: each element lies in the block of one step. -/
theorem final : (dats m 0 c).arrAt 3 cfg0.N = res (argA m c) (argW m c) (argX m c) := by
  refine (dats m 0 c).arrAt_eq_of_covers 3 _ (by decide +kernel) fun t hf y => ?_
  blk_simp
  rw [after0_3]
  unfold out0_3
  canon_tiles x h
  all_goals pointwise [k0_pay1, k0_pay2, k0_pay3, k0_pay4, k0_pay5, res]
  all_goals refine (add_comm _ _).trans (congrArg₂ (fun p q : EReal => p + q) ?_ (Finset.sum_congr rfl fun k _ => congrArg₂ (fun p q : EReal => p * q) ?_ ?_))
  all_goals blk_ext [iblk, V, idx t]

/-- The reference, read element by element. -/
theorem ref (A : FVec Ideal S2048x1024 .bf16) (W : FVec Ideal S1024x1024 .bf16) (X : FVec Ideal S2048x1024 .f32) :
    (addf X (Host.dotGeneral Cert.Reference13Ideal.dot_S2048x1024_S1024x1024_S2048x1024_1_0_0_1_n_n none A W)) = res A W X := by
  funext j
  pointwise [res]

/-- Over the reals the call and its reference leave the same results. -/
theorem algebraic : Cert.algebraic_Kernel13Ideal_Reference13Ideal := fun m ρ m' ρ' _ hm => by
  refine ⟨fun c => res (argA m c) (argW m c) (argX m c),
    (θ_run Cert.Kernel13Ideal.defs _ _).mono (fun r h c => ⟨(h c).1.trans (final m c), (h c).2⟩) (Cert.Kernel13Ideal.Value.run_blocks m ρ),
    (θ_run Cert.Reference13Ideal.defs _ _).mono (fun r h c => ⟨(h c).1.trans ?_, (h c).2⟩) (Cert.Reference13Ideal.Value.run m' ρ')⟩
  rw [(hm c).1, (hm c).2.1, (hm c).2.2]
  exact ref _ _ _

end Cert.Kernel13Ideal.OutFwd

end
-- ==== Proof.MergeFwd.lean ====
/-
  The two branches' output projections and their gated sum.
-/
module

public import proofs.«01_k».proof.Defs
public import proofs.«01_k».proof.Proof.Gen.Kernel14Ideal.Value
public import proofs.«01_k».proof.Proof.Gen.Reference14Ideal.Run
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

namespace Cert.Kernel14Ideal.MergeFwd

open Cert.Kernel14Ideal Cert.Kernel14Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![0, 0] ∧ win0_1.index t = ![0, 0] ∧ win0_2.index t = ![0, t.val] ∧ win0_3.index t = ![0, t.val] ∧ win0_4.index t = ![0, 9 + t.val] ∧ win0_5.index t = ![0, 11 + t.val] ∧ win0_6.index t = ![0, t.val] ∧ win0_7.index t = ![0, t.val] ∧ win0_8.index t = ![0, t.val] := by
  revert t; decide +kernel

abbrev argY : FVec Ideal S2048x1024 .bf16 := m ((c : Thread nD τ).loc main_arg0)
abbrev argA : FVec Ideal S2048x1024 .bf16 := m ((c : Thread nD τ).loc main_arg1)
abbrev argC : FVec Ideal S1024x1024 .bf16 := m ((c : Thread nD τ).loc main_arg2)
abbrev argO : FVec Ideal S1024x1024 .bf16 := m ((c : Thread nD τ).loc main_arg3)
abbrev argP : FVec Ideal S2048x6656 .bf16 := m ((c : Thread nD τ).loc main_arg4)

/-- One branch's output projection. -/
def out (A : FVec Ideal S2048x1024 .bf16) (W : FVec Ideal S1024x1024 .bf16) : FVec Ideal S2048x1024 .bf16 :=
  fun j => (∑ k : Fin 1024, (A (ix2 (j 0) k) : EReal) * (W (ix2 k (j 1)) : EReal) : EReal)

/-- A gate: the logistic of the columns of the projected input from `o` on. -/
def gate (o : ℕ) (ho : o + 1024 ≤ 6656) (P : FVec Ideal S2048x6656 .bf16) : FVec Ideal S2048x1024 .bf16 :=
  fun j => (Ideal.logistic (P (ix2 (j 0) ⟨o + (j 1).val, lt_of_lt_of_le (Nat.add_lt_add_left (j 1).isLt o) ho⟩)) : EReal)

/-- The gated sum of the two branches. -/
def merged (Y A : FVec Ideal S2048x1024 .bf16) (C O : FVec Ideal S1024x1024 .bf16) (P : FVec Ideal S2048x6656 .bf16) : FVec Ideal S2048x1024 .bf16 :=
  fun j => ((gate 4608 (by decide) P j : EReal) * (out Y C j : EReal) + (gate 5632 (by decide) P j : EReal) * (out A O j : EReal) : EReal)

/-- The first gate's block of the projected input. -/
theorem gate_c_blk (t : Fin cfg0.N) (a : Fin 2048) (i : Fin 512) (b : Fin 2048) (r : Fin 6656) (hb : b.val = a.val) (h : r.val = 4608 + (t.val * 512 + i.val)) :
    iblk m c 4 t (ix2 a i) = argP m c (ix2 b r) := by
  blk_ext [iblk, V, idx t]

/-- The second gate's block of the projected input. -/
theorem gate_a_blk (t : Fin cfg0.N) (a : Fin 2048) (i : Fin 512) (b : Fin 2048) (r : Fin 6656) (hb : b.val = a.val) (h : r.val = 5632 + (t.val * 512 + i.val)) :
    iblk m c 5 t (ix2 a i) = argP m c (ix2 b r) := by
  blk_ext [iblk, V, idx t]

/-- The array after the last grid step: each element lies in the block of one step. -/
theorem final_6 : (dats m 0 c).arrAt 6 cfg0.N = out (argY m c) (argC m c) := by
  refine (dats m 0 c).arrAt_eq_of_covers 6 _ (by decide +kernel) fun t hf y => ?_
  blk_simp
  rw [after0_6]
  unfold out0_6
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, out]
  all_goals refine Finset.sum_congr rfl fun k _ => congrArg₂ (fun p q : EReal => p * q) ?_ ?_
  all_goals blk_ext [iblk, V, idx t]

/-- The array after the last grid step: each element lies in the block of one step. -/
theorem final_7 : (dats m 0 c).arrAt 7 cfg0.N = out (argA m c) (argO m c) := by
  refine (dats m 0 c).arrAt_eq_of_covers 7 _ (by decide +kernel) fun t hf y => ?_
  blk_simp
  rw [after0_7]
  unfold out0_7
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, out]
  all_goals refine Finset.sum_congr rfl fun k _ => congrArg₂ (fun p q : EReal => p * q) ?_ ?_
  all_goals blk_ext [iblk, V, idx t]

set_option maxHeartbeats 2000000 in
/-- The array after the last grid step: each element lies in the block of one step. -/
theorem final_8 : (dats m 0 c).arrAt 8 cfg0.N = merged (argY m c) (argA m c) (argC m c) (argO m c) (argP m c) := by
  refine (dats m 0 c).arrAt_eq_of_covers 8 _ (by decide +kernel) fun t hf y => ?_
  blk_simp
  rw [after0_8]
  unfold out0_8
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, merged, gate, out]
  all_goals simp only [Cert.Sigmoid.kernel]
  all_goals
    have e0 : ((((View.whole main_v0_2).slice (win0_8.rect t)).emb y : S2048x1024.Idx) 0).val = (y 0).val := by
      have e' : ((((View.whole main_v0_2).slice (win0_8.rect t)).emb y : S2048x1024.Idx) 0).val = win0_8.index t 0 * 2048 + 1 * (y 0).val := rfl
      rw [e']; simp [idx t]
    have e1 : ((((View.whole main_v0_2).slice (win0_8.rect t)).emb y : S2048x1024.Idx) 1).val = t.val * 512 + (y 1).val := by
      have e' : ((((View.whole main_v0_2).slice (win0_8.rect t)).emb y : S2048x1024.Idx) 1).val = win0_8.index t 1 * 512 + 1 * (y 1).val := rfl
      rw [e']; simp [idx t]
    refine congrArg₂ (fun p q : EReal => p + q)
      (congrArg₂ (fun p q : EReal => Ideal.logistic p * q) (gate_c_blk m c t _ _ _ _ ?_ (congrArg (4608 + ·) (e1.trans ?_))) (Finset.sum_congr rfl fun k _ => congrArg₂ (fun p q : EReal => p * q) ?_ ?_))
      (congrArg₂ (fun p q : EReal => Ideal.logistic p * q) (gate_a_blk m c t _ _ _ _ ?_ (congrArg (5632 + ·) (e1.trans ?_))) (Finset.sum_congr rfl fun k _ => congrArg₂ (fun p q : EReal => p * q) ?_ ?_))
  all_goals first
    | omega
    | (refine e0.trans ?_; simp only []; omega)
    | (blk_ext [iblk, V, idx t]; done)
    | trace_state

/-- The reference's product, read element by element. -/
theorem ref_out (A : FVec Ideal S2048x1024 .bf16) (W : FVec Ideal S1024x1024 .bf16) :
    (truncf .bf16 (Host.dotGeneral Cert.Reference14Ideal.dot_S2048x1024_S1024x1024_S2048x1024_1_0_0_1_n_n none A W) Cert.Reference14Ideal.Gen.bitsLt_bf16_f32) = out A W := by
  funext j
  pointwise [out]

/-- The reference's gated sum, read element by element. -/
theorem ref_merged (Y A : FVec Ideal S2048x1024 .bf16) (C O : FVec Ideal S1024x1024 .bf16) (P : FVec Ideal S2048x6656 .bf16) :
    (truncf .bf16 (addf (mulf (Host.divf (broadcastInDim Cert.Reference14Ideal.S2048x1024 ![] Cert.Reference14Ideal.Gen.bcast_S_S2048x1024 (constant Cert.Reference14Ideal.S_ .f32 0x3F800000#32)) (addf (broadcastInDim Cert.Reference14Ideal.S2048x1024 ![] Cert.Reference14Ideal.Gen.bcast_S_S2048x1024 (constant Cert.Reference14Ideal.S_ .f32 0x3F800000#32)) (Host.exp (Host.negf (extf .f32 (extractStridedSlice Cert.Reference14Ideal.S2048x1024 ![0, 4608] P Cert.Reference14Ideal.Gen.slices_S2048x6656_S2048x1024_0_4608) Cert.Reference14Ideal.Gen.bitsLt_bf16_f32))))) (Host.dotGeneral Cert.Reference14Ideal.dot_S2048x1024_S1024x1024_S2048x1024_1_0_0_1_n_n none Y C)) (mulf (Host.divf (broadcastInDim Cert.Reference14Ideal.S2048x1024 ![] Cert.Reference14Ideal.Gen.bcast_S_S2048x1024 (constant Cert.Reference14Ideal.S_ .f32 0x3F800000#32)) (addf (broadcastInDim Cert.Reference14Ideal.S2048x1024 ![] Cert.Reference14Ideal.Gen.bcast_S_S2048x1024 (constant Cert.Reference14Ideal.S_ .f32 0x3F800000#32)) (Host.exp (Host.negf (extf .f32 (extractStridedSlice Cert.Reference14Ideal.S2048x1024 ![0, 5632] P Cert.Reference14Ideal.Gen.slices_S2048x6656_S2048x1024_0_5632) Cert.Reference14Ideal.Gen.bitsLt_bf16_f32))))) (Host.dotGeneral Cert.Reference14Ideal.dot_S2048x1024_S1024x1024_S2048x1024_1_0_0_1_n_n none A O))) Cert.Reference14Ideal.Gen.bitsLt_bf16_f32) = merged Y A C O P := by
  funext j
  pointwise [merged, gate, out]
  all_goals rfl

/-- Over the reals the call and its reference leave the same results. -/
theorem algebraic : Cert.algebraic_Kernel14Ideal_Reference14Ideal := fun m ρ m' ρ' _ hm => by
  refine ⟨fun c => out (argY m c) (argC m c), fun c => out (argA m c) (argO m c), fun c => merged (argY m c) (argA m c) (argC m c) (argO m c) (argP m c),
    (θ_run Cert.Kernel14Ideal.defs _ _).mono (fun r h c => ⟨(h c).1.trans (final_6 m c), (h c).2.1.trans (final_7 m c), (h c).2.2.1.trans (final_8 m c), (h c).2.2.2⟩) (Cert.Kernel14Ideal.Value.run_blocks m ρ),
    (θ_run Cert.Reference14Ideal.defs _ _).mono (fun r h c => ⟨(h c).1.trans ?_, (h c).2.1.trans ?_, (h c).2.2.1.trans ?_, (h c).2.2.2⟩) (Cert.Reference14Ideal.Value.run m' ρ')⟩
  · rw [(hm c).1, (hm c).2.2.1]
    exact ref_out _ _
  · rw [(hm c).2.1, (hm c).2.2.2.1]
    exact ref_out _ _
  · rw [(hm c).1, (hm c).2.1, (hm c).2.2.1, (hm c).2.2.2.1, (hm c).2.2.2.2]
    exact ref_merged _ _ _ _ _

end Cert.Kernel14Ideal.MergeFwd

end
-- ==== Proof.ConvFwd.lean ====
/-
  The gated convolution.
-/
module

public import proofs.«01_k».proof.Defs
public import proofs.«01_k».proof.Proof.Gen.Kernel15Ideal.Value
public import proofs.«01_k».proof.Proof.Gen.Reference15Ideal.Run
public import proofs.«01_k».proof.Proof.ConvRef
public import Idealize.ShloMosaic.Lib.Pipeline.ValueKit
public import Idealize.ShloMosaic.Lib.Pointwise
public import Idealize.ShloMosaic.Lib.Claim

@[expose] public section

set_option maxRecDepth 16384

noncomputable section

namespace Cert.Kernel15Ideal.ConvFwd

open Cert.Kernel15Ideal Cert.Kernel15Ideal.Gen Idealize.ShloMosaic Idealize.ShloMosaic.TcCoe Idealize.SL.Sem

variable (m : (ℓ : Loc nD τ sig) → Buf (Elt Ideal) ℓ) (c : Dev nD)

open Cert.Conv

/-- Which block of each array a grid step works on. -/
theorem idx (t : Fin cfg0.N) : win0_0.index t = ![0, t.val] ∧ win0_1.index t = ![0, 4 + t.val] ∧ win0_2.index t = ![0, 8 + t.val] ∧ win0_3.index t = ![0, t.val] ∧ win0_4.index t = ![0, t.val] := by
  revert t; decide +kernel

abbrev argP : FVec Ideal S2048x6656 .bf16 := m ((c : Thread nD τ).loc main_arg0)
abbrev argW : FVec Ideal S3x1024 .f32 := m ((c : Thread nD τ).loc main_arg1)

/-- Column `l` of the arguments; there is no incoming gradient. -/
def col (P : FVec Ideal S2048x6656 .bf16) (W : FVec Ideal S3x1024 .f32) (l : Fin 1024) : Col where
  a _ := 0
  b r := P (ix2 r ⟨l.val, by omega⟩)
  c r := P (ix2 r ⟨1024 + l.val, by omega⟩)
  x r := P (ix2 r ⟨2048 + l.val, by omega⟩)
  w k := W (ix2 k l)

/-- What the call computes: the gate times the convolution of the product of the two factors. -/
def conv (P : FVec Ideal S2048x6656 .bf16) (W : FVec Ideal S3x1024 .f32) : FVec Ideal S2048x1024 .bf16 :=
  fun j => ((col P W (j 1)).b (j 0) * (col P W (j 1)).conv (j 0) : EReal)

/-- A grid step's blocks are the column's entries. -/
theorem blk (t : Fin cfg0.N) (i : Fin 256) (l : Fin 1024) (h : l.val = t.val * 256 + i.val) :
    ((∀ r, (iblk m c 0 t (ix2 r i) : EReal) = (col (argP m c) (argW m c) l).b r) ∧ (∀ r, (iblk m c 1 t (ix2 r i) : EReal) = (col (argP m c) (argW m c) l).c r))
      ∧ (∀ r, (iblk m c 2 t (ix2 r i) : EReal) = (col (argP m c) (argW m c) l).x r) ∧ ∀ k, (iblk m c 3 t (ix2 k i) : EReal) = (col (argP m c) (argW m c) l).w k := by
  refine ⟨⟨fun r => ?_, fun r => ?_⟩, fun r => ?_, fun k => ?_⟩ <;> simp only [col]
  all_goals blk_ext [iblk, V, idx t]

set_option maxHeartbeats 2000000 in
/-- The array after the last grid step: each element lies in the block of one step. -/
theorem final : (dats m 0 c).arrAt 4 cfg0.N = conv (argP m c) (argW m c) := by
  refine (dats m 0 c).arrAt_eq_of_covers 4 _ (by decide +kernel) fun t hf y => ?_
  blk_simp
  rw [after0_4]
  unfold out0_4
  canon_tiles x h
  all_goals idx_vars x
  all_goals pointwise [k0_pay1, conv]
  all_goals rw [Cert.KernelIdeal.Conv.select_sge (k := 2) (by omega), Cert.KernelIdeal.Conv.select_sge (k := 1) (by omega)]
  all_goals have e0 : (((View.whole main_v0).slice (win0_4.rect t)).emb y 0).val = (y 0).val := (congrArg (fun p : Fin 2 → ℕ => p 0 * 2048 + 1 * (y 0).val) (idx t).2.2.2.2).trans (by show 0 * 2048 + 1 * (y 0).val = (y 0).val; omega)
  all_goals have e1 : (((View.whole main_v0).slice (win0_4.rect t)).emb y 1).val = t.val * 256 + (y 1).val := (congrArg (fun p : Fin 2 → ℕ => p 1 * 256 + 1 * (y 1).val) (idx t).2.2.2.2).trans (by show t.val * 256 + 1 * (y 1).val = t.val * 256 + (y 1).val; omega)
  all_goals generalize ((View.whole main_v0).slice (win0_4.rect t)).emb y 0 = r at *
  all_goals generalize ((View.whole main_v0).slice (win0_4.rect t)).emb y 1 = l at *
  all_goals obtain ⟨⟨hb, hc⟩, hx, hw⟩ := blk m c t x1 l (e1.trans (congrArg (t.val * 256 + ·) h1))
  all_goals obtain rfl : r = x0 := Fin.ext (e0.trans h0)
  all_goals simp only [hb, hc, hx, hw]
  all_goals exact congrArg₂ (fun p q : EReal => p * q) (hb r) (congrArg₂ (fun p q : EReal => p + q) (congrArg₂ (fun p q : EReal => p + q) (Cert.KernelIdeal.Conv.mask_past (k := 2) (by omega) (col (argP m c) (argW m c) l).u r _) (Cert.KernelIdeal.Conv.mask_past (k := 1) (by omega) (col (argP m c) (argW m c) l).u r _)) (congrArg (fun p : EReal => _ * p) (congrArg₂ (fun p q : EReal => p * q) (hc r) (hx r))))

/-- The reference's convolution, read element by element. -/
theorem ref (P : FVec Ideal S2048x6656 .bf16) (W : FVec Ideal S3x1024 .f32) :
    (truncf .bf16 (mulf (extractStridedSlice Cert.Reference15Ideal.S2048x1024 ![0, 0] (extf .f32 P Cert.Reference15Ideal.Gen.bitsLt_bf16_f32) Cert.Reference15Ideal.Gen.slices_S2048x6656_S2048x1024_0_0) (addf (addf (mulf (broadcastInDim Cert.Reference15Ideal.S2048x1024 ![0, 1] Cert.Reference15Ideal.Gen.bcast_S1x1024_S2048x1024_0_1 (extractStridedSlice Cert.Reference15Ideal.S1x1024 ![0, 0] W Cert.Reference15Ideal.Gen.slices_S3x1024_S1x1024_0_0)) (extractStridedSlice Cert.Reference15Ideal.S2048x1024 ![0, 0] (concatenate Cert.Reference15Ideal.S2050x1024 0 [⟨Cert.Reference15Ideal.S2x1024, (broadcastInDim Cert.Reference15Ideal.S2x1024 ![] Cert.Reference15Ideal.Gen.bcast_S_S2x1024 (constant Cert.Reference15Ideal.S_ .f32 0x00000000#32))⟩, ⟨Cert.Reference15Ideal.S2048x1024, (mulf (extractStridedSlice Cert.Reference15Ideal.S2048x1024 ![0, 1024] (extf .f32 P Cert.Reference15Ideal.Gen.bitsLt_bf16_f32) Cert.Reference15Ideal.Gen.slices_S2048x6656_S2048x1024_0_1024) (extractStridedSlice Cert.Reference15Ideal.S2048x1024 ![0, 2048] (extf .f32 P Cert.Reference15Ideal.Gen.bitsLt_bf16_f32) Cert.Reference15Ideal.Gen.slices_S2048x6656_S2048x1024_0_2048))⟩] Cert.Reference15Ideal.Gen.concatenates_S2x1024_S2048x1024_S2050x1024_d0) Cert.Reference15Ideal.Gen.slices_S2050x1024_S2048x1024_0_0)) (mulf (broadcastInDim Cert.Reference15Ideal.S2048x1024 ![0, 1] Cert.Reference15Ideal.Gen.bcast_S1x1024_S2048x1024_0_1 (extractStridedSlice Cert.Reference15Ideal.S1x1024 ![1, 0] W Cert.Reference15Ideal.Gen.slices_S3x1024_S1x1024_1_0)) (extractStridedSlice Cert.Reference15Ideal.S2048x1024 ![1, 0] (concatenate Cert.Reference15Ideal.S2050x1024 0 [⟨Cert.Reference15Ideal.S2x1024, (broadcastInDim Cert.Reference15Ideal.S2x1024 ![] Cert.Reference15Ideal.Gen.bcast_S_S2x1024 (constant Cert.Reference15Ideal.S_ .f32 0x00000000#32))⟩, ⟨Cert.Reference15Ideal.S2048x1024, (mulf (extractStridedSlice Cert.Reference15Ideal.S2048x1024 ![0, 1024] (extf .f32 P Cert.Reference15Ideal.Gen.bitsLt_bf16_f32) Cert.Reference15Ideal.Gen.slices_S2048x6656_S2048x1024_0_1024) (extractStridedSlice Cert.Reference15Ideal.S2048x1024 ![0, 2048] (extf .f32 P Cert.Reference15Ideal.Gen.bitsLt_bf16_f32) Cert.Reference15Ideal.Gen.slices_S2048x6656_S2048x1024_0_2048))⟩] Cert.Reference15Ideal.Gen.concatenates_S2x1024_S2048x1024_S2050x1024_d0) Cert.Reference15Ideal.Gen.slices_S2050x1024_S2048x1024_1_0))) (mulf (broadcastInDim Cert.Reference15Ideal.S2048x1024 ![0, 1] Cert.Reference15Ideal.Gen.bcast_S1x1024_S2048x1024_0_1 (extractStridedSlice Cert.Reference15Ideal.S1x1024 ![2, 0] W Cert.Reference15Ideal.Gen.slices_S3x1024_S1x1024_2_0)) (extractStridedSlice Cert.Reference15Ideal.S2048x1024 ![2, 0] (concatenate Cert.Reference15Ideal.S2050x1024 0 [⟨Cert.Reference15Ideal.S2x1024, (broadcastInDim Cert.Reference15Ideal.S2x1024 ![] Cert.Reference15Ideal.Gen.bcast_S_S2x1024 (constant Cert.Reference15Ideal.S_ .f32 0x00000000#32))⟩, ⟨Cert.Reference15Ideal.S2048x1024, (mulf (extractStridedSlice Cert.Reference15Ideal.S2048x1024 ![0, 1024] (extf .f32 P Cert.Reference15Ideal.Gen.bitsLt_bf16_f32) Cert.Reference15Ideal.Gen.slices_S2048x6656_S2048x1024_0_1024) (extractStridedSlice Cert.Reference15Ideal.S2048x1024 ![0, 2048] (extf .f32 P Cert.Reference15Ideal.Gen.bitsLt_bf16_f32) Cert.Reference15Ideal.Gen.slices_S2048x6656_S2048x1024_0_2048))⟩] Cert.Reference15Ideal.Gen.concatenates_S2x1024_S2048x1024_S2050x1024_d0) Cert.Reference15Ideal.Gen.slices_S2050x1024_S2048x1024_2_0)))) Cert.Reference15Ideal.Gen.bitsLt_bf16_f32) = conv P W := by
  funext j
  pointwise [conv]
  exact congrArg ((P (ix2 (j 0) ⟨(j 1).val, _⟩) : EReal) * · : EReal → EReal) (congrArg₂ (fun p q : EReal => p + q + _)
    (Cert.ReferenceIdeal.Conv.past2 (col P W (j 1)).u (j 0) _) (Cert.ReferenceIdeal.Conv.past1 (col P W (j 1)).u (j 0) _))

/-- Over the reals the call and its reference leave the same results. -/
theorem algebraic : Cert.algebraic_Kernel15Ideal_Reference15Ideal := fun m ρ m' ρ' _ hm => by
  refine ⟨fun c => conv (argP m c) (argW m c),
    (θ_run Cert.Kernel15Ideal.defs _ _).mono (fun r h c => ⟨(h c).1.trans (final m c), (h c).2⟩) (Cert.Kernel15Ideal.Value.run_blocks m ρ),
    (θ_run Cert.Reference15Ideal.defs _ _).mono (fun r h c => ⟨(h c).1.trans ?_, (h c).2⟩) (Cert.Reference15Ideal.Value.run m' ρ')⟩
  rw [(hm c).1, (hm c).2]
  exact ref _ _

end Cert.Kernel15Ideal.ConvFwd

end
-- ==== Proof.NormFwd.lean ====
/-
  The norm before the mixer and before the feed-forward part.
-/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel16Ideal.NormFwd

open Cert.Kernel16Ideal Cert.Kernel16Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![t.val, 0] ∧ win0_1.index t = ![0, 0] ∧ win0_2.index t = ![t.val, 0] := by
  revert t; decide +kernel

abbrev argX : FVec Ideal S2048x1024 .f32 := m ((c : Thread nD τ).loc main_arg0)
abbrev argG : FVec Ideal S1x1024 .f32 := m ((c : Thread nD τ).loc main_arg1)

/-- The reciprocal of a row's root mean square. -/
def inv (X : FVec Ideal S2048x1024 .f32) (r : Fin 2048) : EReal :=
  Ideal.rsqrt (Ideal.div (∑ k : Fin 1024, (X (ix2 r k) : EReal) * (X (ix2 r k) : EReal)) (Ideal.ofBits .f32 0x44800000#32) + Ideal.ofBits .f32 0x3727C5AC#32)

/-- What the call computes: each row over its root mean square, times the gain. -/
def norm (X : FVec Ideal S2048x1024 .f32) (G : FVec Ideal S1x1024 .f32) : FVec Ideal S2048x1024 .bf16 :=
  fun j => ((X j : EReal) * inv X (j 0) * (G (ix2 0 (j 1)) : EReal) : EReal)

/-- The array after the last grid step: each element lies in the block of one step. -/
theorem final : (dats m 0 c).arrAt 2 cfg0.N = norm (argX m c) (argG m c) := by
  refine (dats m 0 c).arrAt_eq_of_covers 2 _ (by decide +kernel) fun t hf y => ?_
  blk_simp
  rw [after0_2]
  unfold out0_2
  canon_tiles x h
  all_goals pointwise [k0_pay1, norm, inv]
  all_goals refine congrArg₂ (fun p q : EReal => p * q) (congrArg₂ (fun p q : EReal => p * q) ?_ (congrArg (fun p : EReal => Ideal.rsqrt (Ideal.div p _ + _)) (Finset.sum_congr rfl fun k _ => congrArg₂ (fun p q : EReal => p * q) ?_ ?_))) ?_
  all_goals blk_ext [iblk, V, idx t]

/-- The reference's norm, read element by element. -/
theorem ref (X : FVec Ideal S2048x1024 .f32) (G : FVec Ideal S1x1024 .f32) :
    (truncf .bf16 (mulf (mulf X (broadcastInDim Cert.Reference16Ideal.S2048x1024 ![0, 1] Cert.Reference16Ideal.Gen.bcast_S2048x1_S2048x1024_0_1 (Host.rsqrt (addf (Host.divf (broadcastInDim Cert.Reference16Ideal.S2048x1 ![0] Cert.Reference16Ideal.Gen.bcast_S2048_S2048x1_0 (Host.reduceAdd (mulf X X) (constant Cert.Reference16Ideal.S_ .f32 0x00000000#32) Cert.Reference16Ideal.Gen.reducesTo_S2048x1024_S2048_d1 Cert.Reference16Ideal.Gen.h_S_)) (broadcastInDim Cert.Reference16Ideal.S2048x1 ![] Cert.Reference16Ideal.Gen.bcast_S_S2048x1 (constant Cert.Reference16Ideal.S_ .f32 0x44800000#32))) (broadcastInDim Cert.Reference16Ideal.S2048x1 ![] Cert.Reference16Ideal.Gen.bcast_S_S2048x1 (constant Cert.Reference16Ideal.S_ .f32 0x3727C5AC#32)))))) (broadcastInDim Cert.Reference16Ideal.S2048x1024 ![0, 1] Cert.Reference16Ideal.Gen.bcast_S1x1024_S2048x1024_0_1 G)) Cert.Reference16Ideal.Gen.bitsLt_bf16_f32) = norm X G := by
  funext j
  pointwise [norm, inv]

/-- Over the reals the call and its reference leave the same results. -/
theorem algebraic : Cert.algebraic_Kernel16Ideal_Reference16Ideal := fun m ρ m' ρ' _ hm => by
  refine ⟨fun c => norm (argX m c) (argG m c),
    (θ_run Cert.Kernel16Ideal.defs _ _).mono (fun r h c => ⟨(h c).1.trans (final m c), (h c).2⟩) (Cert.Kernel16Ideal.Value.run_blocks m ρ),
    (θ_run Cert.Reference16Ideal.defs _ _).mono (fun r h c => ⟨(h c).1.trans ?_, (h c).2⟩) (Cert.Reference16Ideal.Value.run m' ρ')⟩
  rw [(hm c).1, (hm c).2]
  exact ref _ _

end Cert.Kernel16Ideal.NormFwd

end
-- ==== Proof.NormAlg.lean ====
/-
  The two forms of the gradient of a norm: as the kernel writes it, with the normalised row, and as the derivative of the
  reciprocal root gives it. They agree on all extended reals: the factors that are moved are positive real numbers, and a
  row with an infinite mean square has the reciprocal root zero in both.
-/
module

public import Idealize.ShloMosaic.PureOps.Ideal

@[expose] public section

noncomputable section

namespace Cert.NormAlg

open Idealize.ShloMosaic

/-- The constant 1024. -/
theorem c1024 : Ideal.ofBits .f32 0x44800000#32 = ((1024 : ℝ) : EReal) := by
  simp [Ideal.ofBits, Ideal.ieee]; rw [← EReal.coe_mul]; norm_num

/-- The constant −1/2. -/
theorem cHalf : Ideal.ofBits .f32 0xBF000000#32 = ((-(1 / 2) : ℝ) : EReal) := by
  simp [Ideal.ofBits, Ideal.ieee]; rw [← EReal.coe_mul]; norm_num

/-- The small constant is a positive real number. -/
theorem cEps : ∃ e : ℝ, 0 < e ∧ Ideal.ofBits .f32 0x3727C5AC#32 = (e : EReal) := by
  refine ⟨_, ?_, by simp [Ideal.ofBits, Ideal.ieee]; rfl⟩
  norm_num

/-- Division by 1024 is multiplication by a real number. -/
theorem div1024 (a : EReal) : Ideal.div a (Ideal.ofBits .f32 0x44800000#32) = a * ((1 / 1024 : ℝ) : EReal) := by
  rw [c1024, Ideal.div, if_neg (by simp), ← EReal.coe_inv]; norm_num

/-- A real factor that is not negative moves into a sum. -/
theorem mul_sum {K : ℕ} (r : ℝ) (hr : 0 ≤ r) (f : Fin K → EReal) (s : Finset (Fin K)) : ∑ k ∈ s, (r : EReal) * f k = r * ∑ k ∈ s, f k := by
  classical
  induction s using Finset.induction_on with
  | empty => simp
  | insert a s h ih =>
    rw [Finset.sum_insert h, Finset.sum_insert h, EReal.left_distrib_of_nonneg_of_ne_top (by exact_mod_cast hr) (EReal.coe_ne_top r), ih]

/-- A mean of squares with the small constant added is infinite or a positive real number. -/
theorem ms_cases {K : ℕ} (f : Fin K → EReal) :
    Ideal.div (∑ k, f k * f k) (Ideal.ofBits .f32 0x44800000#32) + Ideal.ofBits .f32 0x3727C5AC#32 = ⊤
      ∨ ∃ w : ℝ, 0 < w ∧ Ideal.div (∑ k, f k * f k) (Ideal.ofBits .f32 0x44800000#32) + Ideal.ofBits .f32 0x3727C5AC#32 = w := by
  obtain ⟨e, he, h⟩ := cEps
  have hs : 0 ≤ ∑ k, f k * f k := Finset.sum_nonneg fun k _ => by
    induction f k with
    | bot => simp
    | top => simp
    | coe r => rw [← EReal.coe_mul]; exact_mod_cast mul_self_nonneg r
  rw [div1024, h]
  generalize ∑ k, f k * f k = q at hs
  induction q with
  | bot => simp at hs
  | top => left; rw [EReal.top_mul_coe_of_pos (by norm_num)]; rfl
  | coe q =>
    have hq : 0 ≤ q := by exact_mod_cast hs
    exact Or.inr ⟨q * (1 / 1024) + e, by positivity, by rw [EReal.coe_add, EReal.coe_mul]⟩

/-- Twice a negative multiple. -/
theorem twice (q : ℝ) (hq : 0 < q) (z : EReal) : ((-q : ℝ) : EReal) * z + ((-q : ℝ) : EReal) * z = ((-(2 * q) : ℝ) : EReal) * z := by
  induction z with
  | bot => rw [EReal.coe_mul_bot_of_neg (by linarith), EReal.coe_mul_bot_of_neg (by linarith)]; rfl
  | top => rw [EReal.coe_mul_top_of_neg (by linarith), EReal.coe_mul_top_of_neg (by linarith)]; rfl
  | coe z => rw [← EReal.coe_mul, ← EReal.coe_add, ← EReal.coe_mul]; congr 1; ring

/-- The two forms of a row's gradient. -/
theorem eq {K : ℕ} (v d x : EReal) (f g : Fin K → EReal) (hv : v = ⊤ ∨ ∃ w : ℝ, 0 < w ∧ v = w) :
    d * Ideal.rsqrt v + x * Ideal.div ((∑ k, g k * f k) * (Ideal.ofBits .f32 0xBF000000#32 * Ideal.div (Ideal.rsqrt v) v)) (Ideal.ofBits .f32 0x44800000#32)
        + Ideal.div ((∑ k, g k * f k) * (Ideal.ofBits .f32 0xBF000000#32 * Ideal.div (Ideal.rsqrt v) v)) (Ideal.ofBits .f32 0x44800000#32) * x
      = Ideal.rsqrt v * (d - x * Ideal.rsqrt v * Ideal.div (∑ k, f k * (g k * Ideal.rsqrt v)) (Ideal.ofBits .f32 0x44800000#32)) := by
  simp only [div1024, cHalf]
  rcases hv with rfl | ⟨w, hw, rfl⟩
  · have h : Ideal.div 0 ⊤ = 0 := by rw [Ideal.div, if_neg (by simp), zero_mul]
    rw [Ideal.rsqrt_top, h]
    simp
  · have hr : Ideal.rsqrt (w : EReal) = (((Real.sqrt w)⁻¹ : ℝ) : EReal) := by
      rw [Ideal.rsqrt_coe, if_neg (by linarith), if_neg (by linarith)]
    rw [hr]
    have hp : 0 < (Real.sqrt w)⁻¹ := inv_pos.mpr (Real.sqrt_pos.mpr hw)
    have hww : w⁻¹ = (Real.sqrt w)⁻¹ * (Real.sqrt w)⁻¹ := by rw [← mul_inv, Real.mul_self_sqrt hw.le]
    generalize (Real.sqrt w)⁻¹ = r at hp hww
    have hd : Ideal.div (r : EReal) (w : EReal) = ((r * w⁻¹ : ℝ) : EReal) := by
      rw [Ideal.div_coe hw.ne', ← EReal.coe_mul, one_div]
    have hs : ∑ k, f k * (g k * (r : EReal)) = r * ∑ k, g k * f k := by
      rw [← mul_sum r hp.le]
      exact Finset.sum_congr rfl fun k _ => by rw [← mul_assoc, mul_comm, mul_comm (f k)]
    rw [hs, hd]
    generalize ∑ k, g k * f k = a
    have hc : 0 < 1 / 2 * (r * w⁻¹) * (1 / 1024) := by
      have := inv_pos.mpr hw; positivity
    have e1 : x * (a * (((-(1 / 2) : ℝ) : EReal) * ((r * w⁻¹ : ℝ) : EReal)) * ((1 / 1024 : ℝ) : EReal)) = ((-(1 / 2 * (r * w⁻¹) * (1 / 1024)) : ℝ) : EReal) * (x * a) := by
      have h : ((-(1 / 2 * (r * w⁻¹) * (1 / 1024)) : ℝ) : EReal) = ((-(1 / 2) : ℝ) : EReal) * ((r * w⁻¹ : ℝ) : EReal) * ((1 / 1024 : ℝ) : EReal) := by
        rw [← EReal.coe_mul, ← EReal.coe_mul]; congr 1; ring
      rw [h]
      ac_rfl
    have e2 : x * r * ((r : EReal) * a * ((1 / 1024 : ℝ) : EReal)) = ((r * r * (1 / 1024) : ℝ) : EReal) * (x * a) := by
      rw [EReal.coe_mul, EReal.coe_mul]
      ac_rfl
    rw [mul_comm _ x, e1, e2, add_assoc, twice _ hc, sub_eq_add_neg, EReal.left_distrib_of_nonneg_of_ne_top (by exact_mod_cast hp.le) (EReal.coe_ne_top r), mul_comm d]
    refine congrArg ((r : EReal) * d + ·) ?_
    rw [← EReal.neg_mul, ← EReal.coe_neg, ← mul_assoc (r : EReal), ← EReal.coe_mul]
    refine congrArg (fun p : ℝ => (p : EReal) * (x * a)) ?_
    rw [hww]; ring

end Cert.NormAlg

end
-- ==== Proof.NormX.lean ====
/-
  The gradients of a norm: of its argument, added to the residual's, and of its gain.
-/
module

public import proofs.«01_k».proof.Defs
public import proofs.«01_k».proof.Proof.Gen.Kernel17Ideal.Value
public import proofs.«01_k».proof.Proof.Gen.Reference17Ideal.Run
public import proofs.«01_k».proof.Proof.NormAlg
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.Kernel17Ideal.NormX

open Cert.Kernel17Ideal Cert.Kernel17Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] := by
  revert t; decide +kernel

abbrev argC : FVec Ideal S2048x1024 .bf16 := m ((c : Thread nD τ).loc main_arg0)
abbrev argX : FVec Ideal S2048x1024 .f32 := m ((c : Thread nD τ).loc main_arg1)
abbrev argG : FVec Ideal S1x1024 .f32 := m ((c : Thread nD τ).loc main_arg2)
abbrev argR : FVec Ideal S2048x1024 .f32 := m ((c : Thread nD τ).loc main_arg3)

/-- A row's mean square, with the small constant added. -/
def ms (X : FVec Ideal S2048x1024 .f32) (r : Fin 2048) : EReal :=
  Ideal.div (∑ k : Fin 1024, (X (ix2 r k) : EReal) * (X (ix2 r k) : EReal)) (Ideal.ofBits .f32 0x44800000#32) + Ideal.ofBits .f32 0x3727C5AC#32

/-- The argument's gradient, added to the residual's. -/
def dx (C : FVec Ideal S2048x1024 .bf16) (X : FVec Ideal S2048x1024 .f32) (G : FVec Ideal S1x1024 .f32) (R : FVec Ideal S2048x1024 .f32) : FVec Ideal S2048x1024 .f32 :=
  fun j => ((R j : EReal) + Ideal.rsqrt (ms X (j 0)) * ((C j : EReal) * (G (ix2 0 (j 1)) : EReal)
    - (X j : EReal) * Ideal.rsqrt (ms X (j 0)) * Ideal.div (∑ k : Fin 1024, (C (ix2 (j 0) k) : EReal) * (G (ix2 0 k) : EReal) * ((X (ix2 (j 0) k) : EReal) * Ideal.rsqrt (ms X (j 0)))) (Ideal.ofBits .f32 0x44800000#32)) : EReal)

/-- The same, as the narrow copy. -/
def dxb (C : FVec Ideal S2048x1024 .bf16) (X : FVec Ideal S2048x1024 .f32) (G : FVec Ideal S1x1024 .f32) (R : FVec Ideal S2048x1024 .f32) : FVec Ideal S2048x1024 .bf16 :=
  fun j => (dx C X G R j : EReal)

/-- The gain's gradient. -/
def dg (C : FVec Ideal S2048x1024 .bf16) (X : FVec Ideal S2048x1024 .f32) : FVec Ideal S1x1024 .f32 :=
  fun j => (∑ r : Fin 2048, (C (ix2 r (j 1)) : EReal) * ((X (ix2 r (j 1)) : EReal) * Ideal.rsqrt (ms X r)) : EReal)

/-- What a grid step leaves in the argument's gradient. -/
theorem out4 (t : Fin cfg0.N) : (outsAt0 m c t.val t.isLt).1 = k0_pay5 (F := Ideal) (iblk m c 1 t) (iblk m c 0 t) (iblk m c 2 t) (iblk m c 3 t) := by
  by_cases h : t.val % 4 = 0
  · rw [outsAt0_A m c t h (by have := t.isLt; have : cfg0.N = 4 := rfl; omega)]
    frame_open
    frame_out
  · rw [outsAt0_B m c t h (by omega)]
    frame_open
    frame_out

/-- What a grid step leaves in the argument's gradient. -/
theorem out5 (t : Fin cfg0.N) : (outsAt0 m c t.val t.isLt).2.1 = k0_pay6 (F := Ideal) (iblk m c 1 t) (iblk m c 0 t) (iblk m c 2 t) (iblk m c 3 t) := by
  by_cases h : t.val % 4 = 0
  · rw [outsAt0_A m c t h (by have := t.isLt; have : cfg0.N = 4 := rfl; omega)]
    frame_open
    frame_out
  · rw [outsAt0_B m c t h (by omega)]
    frame_open
    frame_out

/-- The gain's gradient after the first step, which sets it. -/
theorem out6A (t : Fin cfg0.N) (h : t.val % 4 = 0) : (outsAt0 m c t.val t.isLt).2.2 = k0_pay7 (F := Ideal) (iblk m c 1 t) (iblk m c 0 t) := by
  rw [outsAt0_A m c t h (by have := t.isLt; have : cfg0.N = 4 := rfl; omega)]
  frame_open
  frame_out

/-- The gain's gradient after a later step, which adds to it. -/
theorem out6B (t : Fin cfg0.N) (h : ¬t.val % 4 = 0) : (outsAt0 m c t.val t.isLt).2.2 = k0_pay1 (F := Ideal) (k0_pay7 (iblk m c 1 t) (iblk m c 0 t)) (outsAt0 m c (t.val - 1) (Nat.lt_of_le_of_lt (Nat.sub_le _ _) t.isLt)).2.2 := by
  rw [outsAt0_B m c t h (by omega)]
  frame_open
  frame_out

/-- One grid step's part of the gain's gradient. -/
def part (t : Fin cfg0.N) (y : S1x1024.Idx) : EReal := (k0_pay7 (F := Ideal) (iblk m c 1 t) (iblk m c 0 t) y : EReal)

/-- The gain's gradient at the point that writes it back: the four steps' parts. -/
theorem acc_sum (t : Fin cfg0.N) (ht : t.val % 4 = 3) (y : S1x1024.Idx) :
    ((outsAt0 m c t.val t.isLt).2.2 y : EReal) = 0 + ∑ s : Fin 4, part m c ⟨4 * (t.val / 4) + s.val, Pipeline.run_point_lt_of_flush (J := 4) t ht s⟩ y :=
  Pipeline.eq_sum_fin_of_reset_step_apply_of_flush (M := EReal) (fun n h => (outsAt0 m c n h).2.2) 4 (fun _ => 0) (part m c)
    (fun t h i => (congrFun (out6A m c t h) i).trans (zero_add _).symm)
    (fun t h i => by
      refine (congrFun (out6B m c t h) i).trans ?_
      pointwise [k0_pay1, part])
    t ht y

set_option maxHeartbeats 2000000 in
/-- The array after the last grid step: each element lies in the block of one step. -/
theorem final_4 : (dats m 0 c).arrAt 4 cfg0.N = dx (argC m c) (argX m c) (argG m c) (argR m c) := by
  refine (dats m 0 c).arrAt_eq_of_covers 4 _ (by decide +kernel) fun t hf y => ?_
  blk_simp
  rw [after0_4, out4 m c t]
  pointwise [k0_pay1, k0_pay2, k0_pay3, k0_pay4, k0_pay5, k0_pay6, k0_pay7, dx, ms]
  refine congrArg₂ (fun p q : EReal => p + q) ?_ (congrArg₂ (fun p q : EReal => p * q) (congrArg (fun p : EReal => Ideal.rsqrt (Ideal.div p _ + _)) (Finset.sum_congr rfl fun k _ => congrArg₂ (fun p q : EReal => p * q) ?_ ?_)) (congrArg₂ (fun p q : EReal => p - q) (congrArg₂ (fun p q : EReal => p * q) ?_ ?_) (congrArg₂ (fun p q : EReal => p * q) (congrArg₂ (fun p q : EReal => p * q) ?_ (congrArg (fun p : EReal => Ideal.rsqrt (Ideal.div p _ + _)) (Finset.sum_congr rfl fun k _ => congrArg₂ (fun p q : EReal => p * q) ?_ ?_))) (congrArg (fun p : EReal => Ideal.div p _) (Finset.sum_congr rfl fun k _ => (congrArg₂ (fun p q : EReal => p * q) (congrArg₂ (fun p q : EReal => p * q) ?_ ?_) (congrArg₂ (fun p q : EReal => p * q) ?_ (congrArg (fun p : EReal => Ideal.rsqrt (Ideal.div p _ + _)) (Finset.sum_congr rfl fun l _ => congrArg₂ (fun p q : EReal => p * q) ?_ ?_)))))))))
  all_goals blk_ext [iblk, V, idx t]

set_option maxHeartbeats 2000000 in
/-- The array after the last grid step: each element lies in the block of one step. -/
theorem final_5 : (dats m 0 c).arrAt 5 cfg0.N = dxb (argC m c) (argX m c) (argG m c) (argR m c) := by
  refine (dats m 0 c).arrAt_eq_of_covers 5 _ (by decide +kernel) fun t hf y => ?_
  blk_simp
  rw [after0_5, out5 m c t]
  pointwise [k0_pay1, k0_pay2, k0_pay3, k0_pay4, k0_pay5, k0_pay6, k0_pay7, dxb, dx, ms]
  refine congrArg₂ (fun p q : EReal => p + q) ?_ (congrArg₂ (fun p q : EReal => p * q) (congrArg (fun p : EReal => Ideal.rsqrt (Ideal.div p _ + _)) (Finset.sum_congr rfl fun k _ => congrArg₂ (fun p q : EReal => p * q) ?_ ?_)) (congrArg₂ (fun p q : EReal => p - q) (congrArg₂ (fun p q : EReal => p * q) ?_ ?_) (congrArg₂ (fun p q : EReal => p * q) (congrArg₂ (fun p q : EReal => p * q) ?_ (congrArg (fun p : EReal => Ideal.rsqrt (Ideal.div p _ + _)) (Finset.sum_congr rfl fun k _ => congrArg₂ (fun p q : EReal => p * q) ?_ ?_))) (congrArg (fun p : EReal => Ideal.div p _) (Finset.sum_congr rfl fun k _ => (congrArg₂ (fun p q : EReal => p * q) (congrArg₂ (fun p q : EReal => p * q) ?_ ?_) (congrArg₂ (fun p q : EReal => p * q) ?_ (congrArg (fun p : EReal => Ideal.rsqrt (Ideal.div p _ + _)) (Finset.sum_congr rfl fun l _ => congrArg₂ (fun p q : EReal => p * q) ?_ ?_)))))))))
  all_goals blk_ext [iblk, V, idx t]

set_option maxHeartbeats 2000000 in
/-- The gain's gradient after the last grid step. -/
theorem final_6 : (dats m 0 c).arrAt 6 cfg0.N = dg (argC m c) (argX m c) := by
  refine (dats m 0 c).arrAt_eq_of_covers 6 _ (by decide +kernel) fun t hf y => ?_
  have ht := (flush0_6 t).mp hf
  blk_simp
  rw [after0_6]
  refine (acc_sum m c t ht y).trans ((zero_add _).trans ?_)
  simp only [part]
  pointwise [k0_pay1, k0_pay2, k0_pay3, k0_pay4, k0_pay5, k0_pay6, k0_pay7, dg, ms]
  refine Fin.sum_mul_add_congr fun s k hl => ?_
  refine congrArg₂ (fun p q : EReal => p * q) ?_ (congrArg₂ (fun p q : EReal => p * q) ?_ (congrArg (fun p : EReal => Ideal.rsqrt (Ideal.div p _ + _)) (Finset.sum_congr rfl fun l _ => congrArg₂ (fun p q : EReal => p * q) ?_ ?_)))
  all_goals blk_ext [iblk, V, idx t, idx ⟨4 * (t.val / 4) + s.val, Pipeline.run_point_lt_of_flush (J := 4) t ht s⟩]

/-- The reference's gradient of the argument, read element by element. -/
theorem ref_dx (C : FVec Ideal S2048x1024 .bf16) (X : FVec Ideal S2048x1024 .f32) (G : FVec Ideal S1x1024 .f32) (R : FVec Ideal S2048x1024 .f32) :
    (addf R (addf (addf (mulf (mulf (extf .f32 C Cert.Reference17Ideal.Gen.bitsLt_bf16_f32) (broadcastInDim Cert.Reference17Ideal.S2048x1024 ![0, 1] Cert.Reference17Ideal.Gen.bcast_S1x1024_S2048x1024_0_1 G)) (broadcastInDim Cert.Reference17Ideal.S2048x1024 ![0, 1] Cert.Reference17Ideal.Gen.bcast_S2048x1_S2048x1024_0_1 (Host.rsqrt (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))))) (mulf X (broadcastInDim Cert.Reference17Ideal.S2048x1024 ![0] Cert.Reference17Ideal.Gen.bcast_S2048_S2048x1024_0 (Host.reduceAdd (Host.divf (mulf (shapeCast _ (Host.reduceAdd (mulf X (mulf (extf .f32 C Cert.Reference17Ideal.Gen.bitsLt_bf16_f32) (broadcastInDim Cert.Reference17Ideal.S2048x1024 ![0, 1] Cert.Reference17Ideal.Gen.bcast_S1x1024_S2048x1024_0_1 G))) (constant Cert.Reference17Ideal.S_ .f32 0x00000000#32) Cert.Reference17Ideal.Gen.reducesTo_S2048x1024_S2048_d1 Cert.Reference17Ideal.Gen.h_S_) Cert.Reference17Ideal.Gen.shapeCasts_S2048_S2048x1) (mulf (broadcastInDim Cert.Reference17Ideal.S2048x1 ![] Cert.Reference17Ideal.Gen.bcast_S_S2048x1 (constant Cert.Reference17Ideal.S_ .f32 0xBF000000#32)) (Host.divf (Host.rsqrt (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))) (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))))) (broadcastInDim Cert.Reference17Ideal.S2048x1 ![] Cert.Reference17Ideal.Gen.bcast_S_S2048x1 (constant Cert.Reference17Ideal.S_ .f32 0x44800000#32))) (constant Cert.Reference17Ideal.S_ .f32 0x00000000#32) Cert.Reference17Ideal.Gen.reducesTo_S2048x1_S2048_d1 Cert.Reference17Ideal.Gen.h_S_)))) (mulf (broadcastInDim Cert.Reference17Ideal.S2048x1024 ![0] Cert.Reference17Ideal.Gen.bcast_S2048_S2048x1024_0 (Host.reduceAdd (Host.divf (mulf (shapeCast _ (Host.reduceAdd (mulf X (mulf (extf .f32 C Cert.Reference17Ideal.Gen.bitsLt_bf16_f32) (broadcastInDim Cert.Reference17Ideal.S2048x1024 ![0, 1] Cert.Reference17Ideal.Gen.bcast_S1x1024_S2048x1024_0_1 G))) (constant Cert.Reference17Ideal.S_ .f32 0x00000000#32) Cert.Reference17Ideal.Gen.reducesTo_S2048x1024_S2048_d1 Cert.Reference17Ideal.Gen.h_S_) Cert.Reference17Ideal.Gen.shapeCasts_S2048_S2048x1) (mulf (broadcastInDim Cert.Reference17Ideal.S2048x1 ![] Cert.Reference17Ideal.Gen.bcast_S_S2048x1 (constant Cert.Reference17Ideal.S_ .f32 0xBF000000#32)) (Host.divf (Host.rsqrt (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))) (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))))) (broadcastInDim Cert.Reference17Ideal.S2048x1 ![] Cert.Reference17Ideal.Gen.bcast_S_S2048x1 (constant Cert.Reference17Ideal.S_ .f32 0x44800000#32))) (constant Cert.Reference17Ideal.S_ .f32 0x00000000#32) Cert.Reference17Ideal.Gen.reducesTo_S2048x1_S2048_d1 Cert.Reference17Ideal.Gen.h_S_)) X))) = dx C X G R := by
  funext j
  pointwise [dx, ms]
  simp only [Fin.sum_univ_one]
  exact congrArg (fun p : EReal => (R j : EReal) + p) (Cert.NormAlg.eq _ _ _ _ _ (Cert.NormAlg.ms_cases fun k : Fin 1024 => (X (ix2 (j 0) k) : EReal)))

/-- The reference's gradient of the argument, read element by element. -/
theorem ref_dxb (C : FVec Ideal S2048x1024 .bf16) (X : FVec Ideal S2048x1024 .f32) (G : FVec Ideal S1x1024 .f32) (R : FVec Ideal S2048x1024 .f32) :
    (truncf .bf16 (addf R (addf (addf (mulf (mulf (extf .f32 C Cert.Reference17Ideal.Gen.bitsLt_bf16_f32) (broadcastInDim Cert.Reference17Ideal.S2048x1024 ![0, 1] Cert.Reference17Ideal.Gen.bcast_S1x1024_S2048x1024_0_1 G)) (broadcastInDim Cert.Reference17Ideal.S2048x1024 ![0, 1] Cert.Reference17Ideal.Gen.bcast_S2048x1_S2048x1024_0_1 (Host.rsqrt (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))))) (mulf X (broadcastInDim Cert.Reference17Ideal.S2048x1024 ![0] Cert.Reference17Ideal.Gen.bcast_S2048_S2048x1024_0 (Host.reduceAdd (Host.divf (mulf (shapeCast _ (Host.reduceAdd (mulf X (mulf (extf .f32 C Cert.Reference17Ideal.Gen.bitsLt_bf16_f32) (broadcastInDim Cert.Reference17Ideal.S2048x1024 ![0, 1] Cert.Reference17Ideal.Gen.bcast_S1x1024_S2048x1024_0_1 G))) (constant Cert.Reference17Ideal.S_ .f32 0x00000000#32) Cert.Reference17Ideal.Gen.reducesTo_S2048x1024_S2048_d1 Cert.Reference17Ideal.Gen.h_S_) Cert.Reference17Ideal.Gen.shapeCasts_S2048_S2048x1) (mulf (broadcastInDim Cert.Reference17Ideal.S2048x1 ![] Cert.Reference17Ideal.Gen.bcast_S_S2048x1 (constant Cert.Reference17Ideal.S_ .f32 0xBF000000#32)) (Host.divf (Host.rsqrt (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))) (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))))) (broadcastInDim Cert.Reference17Ideal.S2048x1 ![] Cert.Reference17Ideal.Gen.bcast_S_S2048x1 (constant Cert.Reference17Ideal.S_ .f32 0x44800000#32))) (constant Cert.Reference17Ideal.S_ .f32 0x00000000#32) Cert.Reference17Ideal.Gen.reducesTo_S2048x1_S2048_d1 Cert.Reference17Ideal.Gen.h_S_)))) (mulf (broadcastInDim Cert.Reference17Ideal.S2048x1024 ![0] Cert.Reference17Ideal.Gen.bcast_S2048_S2048x1024_0 (Host.reduceAdd (Host.divf (mulf (shapeCast _ (Host.reduceAdd (mulf X (mulf (extf .f32 C Cert.Reference17Ideal.Gen.bitsLt_bf16_f32) (broadcastInDim Cert.Reference17Ideal.S2048x1024 ![0, 1] Cert.Reference17Ideal.Gen.bcast_S1x1024_S2048x1024_0_1 G))) (constant Cert.Reference17Ideal.S_ .f32 0x00000000#32) Cert.Reference17Ideal.Gen.reducesTo_S2048x1024_S2048_d1 Cert.Reference17Ideal.Gen.h_S_) Cert.Reference17Ideal.Gen.shapeCasts_S2048_S2048x1) (mulf (broadcastInDim Cert.Reference17Ideal.S2048x1 ![] Cert.Reference17Ideal.Gen.bcast_S_S2048x1 (constant Cert.Reference17Ideal.S_ .f32 0xBF000000#32)) (Host.divf (Host.rsqrt (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))) (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))))) (broadcastInDim Cert.Reference17Ideal.S2048x1 ![] Cert.Reference17Ideal.Gen.bcast_S_S2048x1 (constant Cert.Reference17Ideal.S_ .f32 0x44800000#32))) (constant Cert.Reference17Ideal.S_ .f32 0x00000000#32) Cert.Reference17Ideal.Gen.reducesTo_S2048x1_S2048_d1 Cert.Reference17Ideal.Gen.h_S_)) X))) Cert.Reference17Ideal.Gen.bitsLt_bf16_f32) = dxb C X G R := by
  funext j
  pointwise [dxb, dx, ms]
  simp only [Fin.sum_univ_one]
  exact congrArg (fun p : EReal => (R j : EReal) + p) (Cert.NormAlg.eq _ _ _ _ _ (Cert.NormAlg.ms_cases fun k : Fin 1024 => (X (ix2 (j 0) k) : EReal)))

/-- The reference's gradient of the gain, read element by element. -/
theorem ref_dg (C : FVec Ideal S2048x1024 .bf16) (X : FVec Ideal S2048x1024 .f32) :
    (shapeCast _ (Host.reduceAdd (mulf (mulf X (broadcastInDim Cert.Reference17Ideal.S2048x1024 ![0, 1] Cert.Reference17Ideal.Gen.bcast_S2048x1_S2048x1024_0_1 (Host.rsqrt (addf (Host.divf (broadcastInDim Cert.Reference17Ideal.S2048x1 ![0] Cert.Reference17Ideal.Gen.bcast_S2048_S2048x1_0 (Host.reduceAdd (mulf X X) (constant Cert.Reference17Ideal.S_ .f32 0x00000000#32) Cert.Reference17Ideal.Gen.reducesTo_S2048x1024_S2048_d1 Cert.Reference17Ideal.Gen.h_S_)) (broadcastInDim Cert.Reference17Ideal.S2048x1 ![] Cert.Reference17Ideal.Gen.bcast_S_S2048x1 (constant Cert.Reference17Ideal.S_ .f32 0x44800000#32))) (broadcastInDim Cert.Reference17Ideal.S2048x1 ![] Cert.Reference17Ideal.Gen.bcast_S_S2048x1 (constant Cert.Reference17Ideal.S_ .f32 0x3727C5AC#32)))))) (extf .f32 C Cert.Reference17Ideal.Gen.bitsLt_bf16_f32)) (constant Cert.Reference17Ideal.S_ .f32 0x00000000#32) Cert.Reference17Ideal.Gen.reducesTo_S2048x1024_S1024_d0 Cert.Reference17Ideal.Gen.h_S_) Cert.Reference17Ideal.Gen.shapeCasts_S1024_S1x1024) = dg C X := by
  funext j
  pointwise [dg, ms]
  exact Finset.sum_congr rfl fun r _ => mul_comm _ _

/-- Over the reals the call and its reference leave the same results. -/
theorem algebraic : Cert.algebraic_Kernel17Ideal_Reference17Ideal := fun m ρ m' ρ' _ hm => by
  refine ⟨fun c => dx (argC m c) (argX m c) (argG m c) (argR m c), fun c => dxb (argC m c) (argX m c) (argG m c) (argR m c), fun c => dg (argC m c) (argX m c),
    (θ_run Cert.Kernel17Ideal.defs _ _).mono (fun r h c => ⟨(h c).1.trans (final_4 m c), (h c).2.1.trans (final_5 m c), (h c).2.2.1.trans (final_6 m c), (h c).2.2.2⟩) (Cert.Kernel17Ideal.Value.run_blocks m ρ),
    (θ_run Cert.Reference17Ideal.defs _ _).mono (fun r h c => ⟨(h c).1.trans ?_, (h c).2.1.trans ?_, (h c).2.2.1.trans ?_, (h c).2.2.2⟩) (Cert.Reference17Ideal.Value.run m' ρ')⟩
  · rw [(hm c).1, (hm c).2.1, (hm c).2.2.1, (hm c).2.2.2]
    exact ref_dx _ _ _ _
  · rw [(hm c).1, (hm c).2.1, (hm c).2.2.1, (hm c).2.2.2]
    exact ref_dxb _ _ _ _
  · rw [(hm c).1, (hm c).2.1]
    exact ref_dg _ _

end Cert.Kernel17Ideal.NormX

end
-- ==== Proof.LossX.lean ====
/-
  The gradients of the loss at the final norm, of its argument and of its gain, and the squared errors summed over the rows.
-/
module

public import proofs.«01_k».proof.Defs
public import proofs.«01_k».proof.Proof.Gen.Kernel18Ideal.Value
public import proofs.«01_k».proof.Proof.Gen.Reference18Ideal.Run
public import proofs.«01_k».proof.Proof.NormAlg
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.Kernel18Ideal.LossX

open Cert.Kernel18Ideal Cert.Kernel18Ideal.Gen Idealize.ShloMosaic Idealize.ShloMosaic.TcCoe Idealize.SL.Sem

variable (m : (ℓ : Loc nD τ sig) → Buf (Elt Ideal) ℓ) (c : Dev nD)

/-- Which block of each array a grid step works on. -/
theorem idx (t : Fin cfg0.N) : win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![0, 0] := by
  revert t; decide +kernel

abbrev argX : FVec Ideal S2048x1024 .f32 := m ((c : Thread nD τ).loc main_arg0)
abbrev argG : FVec Ideal S1x1024 .f32 := m ((c : Thread nD τ).loc main_arg1)
abbrev argT : FVec Ideal S2048x1024 .f32 := m ((c : Thread nD τ).loc main_arg2)

/-- A row's mean square, with the small constant added. -/
def ms (X : FVec Ideal S2048x1024 .f32) (r : Fin 2048) : EReal :=
  Ideal.div (∑ k : Fin 1024, (X (ix2 r k) : EReal) * (X (ix2 r k) : EReal)) (Ideal.ofBits .f32 0x44800000#32) + Ideal.ofBits .f32 0x3727C5AC#32

/-- The error: the norm of the argument less the target. -/
def err (X : FVec Ideal S2048x1024 .f32) (G : FVec Ideal S1x1024 .f32) (T : FVec Ideal S2048x1024 .f32) (r : Fin 2048) (k : Fin 1024) : EReal :=
  (X (ix2 r k) : EReal) * Ideal.rsqrt (ms X r) * (G (ix2 0 k) : EReal) - (T (ix2 r k) : EReal)

/-- The norm's cotangent: the error divided by the number of features. -/
def cot (X : FVec Ideal S2048x1024 .f32) (G : FVec Ideal S1x1024 .f32) (T : FVec Ideal S2048x1024 .f32) (r : Fin 2048) (k : Fin 1024) : EReal :=
  err X G T r k * Ideal.ofBits .f32 0x3A800000#32

/-- The argument's gradient. -/
def dx (X : FVec Ideal S2048x1024 .f32) (G : FVec Ideal S1x1024 .f32) (T : FVec Ideal S2048x1024 .f32) : FVec Ideal S2048x1024 .f32 :=
  fun j => (Ideal.rsqrt (ms X (j 0)) * (cot X G T (j 0) (j 1) * (G (ix2 0 (j 1)) : EReal)
    - (X j : EReal) * Ideal.rsqrt (ms X (j 0)) * Ideal.div (∑ k : Fin 1024, cot X G T (j 0) k * (G (ix2 0 k) : EReal) * ((X (ix2 (j 0) k) : EReal) * Ideal.rsqrt (ms X (j 0)))) (Ideal.ofBits .f32 0x44800000#32)) : EReal)

/-- The same, as the narrow copy. -/
def dxb (X : FVec Ideal S2048x1024 .f32) (G : FVec Ideal S1x1024 .f32) (T : FVec Ideal S2048x1024 .f32) : FVec Ideal S2048x1024 .bf16 :=
  fun j => (dx X G T j : EReal)

/-- The gain's gradient. -/
def dg (X : FVec Ideal S2048x1024 .f32) (G : FVec Ideal S1x1024 .f32) (T : FVec Ideal S2048x1024 .f32) : FVec Ideal S1x1024 .f32 :=
  fun j => (∑ r : Fin 2048, cot X G T r (j 1) * ((X (ix2 r (j 1)) : EReal) * Ideal.rsqrt (ms X r)) : EReal)

/-- The squared errors, summed over the rows. -/
def sq (X : FVec Ideal S2048x1024 .f32) (G : FVec Ideal S1x1024 .f32) (T : FVec Ideal S2048x1024 .f32) : FVec Ideal S1x1024 .f32 :=
  fun j => (∑ r : Fin 2048, err X G T r (j 1) * err X G T r (j 1) : EReal)

/-- What a grid step leaves in the argument's gradient. -/
theorem out3 (t : Fin cfg0.N) : (outsAt0 m c t.val t.isLt).1 = k0_pay7 (F := Ideal) (iblk m c 0 t) (iblk m c 1 t) (iblk m c 2 t) := by
  by_cases h : t.val % 4 = 0
  · rw [outsAt0_A m c t h (by have := t.isLt; have : cfg0.N = 4 := rfl; omega)]
    frame_open
    frame_out
  · rw [outsAt0_B m c t h (by omega)]
    frame_open
    frame_out

/-- What a grid step leaves in the argument's gradient. -/
theorem out4 (t : Fin cfg0.N) : (outsAt0 m c t.val t.isLt).2.1 = k0_pay8 (F := Ideal) (iblk m c 0 t) (iblk m c 1 t) (iblk m c 2 t) := by
  by_cases h : t.val % 4 = 0
  · rw [outsAt0_A m c t h (by have := t.isLt; have : cfg0.N = 4 := rfl; omega)]
    frame_open
    frame_out
  · rw [outsAt0_B m c t h (by omega)]
    frame_open
    frame_out

/-- The gain's gradient after the first step, which sets it. -/
theorem out5A (t : Fin cfg0.N) (h : t.val % 4 = 0) : (outsAt0 m c t.val t.isLt).2.2.1 = k0_pay9 (F := Ideal) (iblk m c 0 t) (iblk m c 1 t) (iblk m c 2 t) := by
  rw [outsAt0_A m c t h (by have := t.isLt; have : cfg0.N = 4 := rfl; omega)]
  frame_open
  frame_out

/-- The gain's gradient after a later step, which adds to it. -/
theorem out5B (t : Fin cfg0.N) (h : ¬t.val % 4 = 0) : (outsAt0 m c t.val t.isLt).2.2.1 = k0_pay1 (F := Ideal) (k0_pay9 (iblk m c 0 t) (iblk m c 1 t) (iblk m c 2 t)) (outsAt0 m c (t.val - 1) (Nat.lt_of_le_of_lt (Nat.sub_le _ _) t.isLt)).2.2.1 := by
  rw [outsAt0_B m c t h (by omega)]
  frame_open
  frame_out

/-- One grid step's part of it. -/
def part5 (t : Fin cfg0.N) (y : S1x1024.Idx) : EReal := (k0_pay9 (F := Ideal) (iblk m c 0 t) (iblk m c 1 t) (iblk m c 2 t) y : EReal)

/-- The gain's gradient at the point that writes it back: the four steps' parts. -/
theorem acc_sum5 (t : Fin cfg0.N) (ht : t.val % 4 = 3) (y : S1x1024.Idx) :
    ((outsAt0 m c t.val t.isLt).2.2.1 y : EReal) = 0 + ∑ s : Fin 4, part5 m c ⟨4 * (t.val / 4) + s.val, Pipeline.run_point_lt_of_flush (J := 4) t ht s⟩ y :=
  Pipeline.eq_sum_fin_of_reset_step_apply_of_flush (M := EReal) (fun n h => (outsAt0 m c n h).2.2.1) 4 (fun _ => 0) (part5 m c)
    (fun t h i => (congrFun (out5A m c t h) i).trans (zero_add _).symm)
    (fun t h i => by
      refine (congrFun (out5B m c t h) i).trans ?_
      pointwise [k0_pay1, part5])
    t ht y

/-- The sum of the squared errors after the first step, which sets it. -/
theorem out6A (t : Fin cfg0.N) (h : t.val % 4 = 0) : (outsAt0 m c t.val t.isLt).2.2.2 = k0_pay10 (F := Ideal) (iblk m c 0 t) (iblk m c 1 t) (iblk m c 2 t) := by
  rw [outsAt0_A m c t h (by have := t.isLt; have : cfg0.N = 4 := rfl; omega)]
  frame_open
  frame_out

/-- The sum of the squared errors after a later step, which adds to it. -/
theorem out6B (t : Fin cfg0.N) (h : ¬t.val % 4 = 0) : (outsAt0 m c t.val t.isLt).2.2.2 = k0_pay2 (F := Ideal) (k0_pay10 (iblk m c 0 t) (iblk m c 1 t) (iblk m c 2 t)) (outsAt0 m c (t.val - 1) (Nat.lt_of_le_of_lt (Nat.sub_le _ _) t.isLt)).2.2.2 := by
  rw [outsAt0_B m c t h (by omega)]
  frame_open
  frame_out

/-- One grid step's part of it. -/
def part6 (t : Fin cfg0.N) (y : S1x1024.Idx) : EReal := (k0_pay10 (F := Ideal) (iblk m c 0 t) (iblk m c 1 t) (iblk m c 2 t) y : EReal)

/-- The sum of the squared errors at the point that writes it back: the four steps' parts. -/
theorem acc_sum6 (t : Fin cfg0.N) (ht : t.val % 4 = 3) (y : S1x1024.Idx) :
    ((outsAt0 m c t.val t.isLt).2.2.2 y : EReal) = 0 + ∑ s : Fin 4, part6 m c ⟨4 * (t.val / 4) + s.val, Pipeline.run_point_lt_of_flush (J := 4) t ht s⟩ y :=
  Pipeline.eq_sum_fin_of_reset_step_apply_of_flush (M := EReal) (fun n h => (outsAt0 m c n h).2.2.2) 4 (fun _ => 0) (part6 m c)
    (fun t h i => (congrFun (out6A m c t h) i).trans (zero_add _).symm)
    (fun t h i => by
      refine (congrFun (out6B m c t h) i).trans ?_
      pointwise [k0_pay2, part6])
    t ht y

set_option maxHeartbeats 4000000 in
/-- The array after the last grid step: each element lies in the block of one step. -/
theorem final_3 : (dats m 0 c).arrAt 3 cfg0.N = dx (argX m c) (argG m c) (argT m c) := by
  refine (dats m 0 c).arrAt_eq_of_covers 3 _ (by decide +kernel) fun t hf y => ?_
  blk_simp
  rw [after0_3, out3 m c t]
  pointwise [k0_pay1, k0_pay2, k0_pay3, k0_pay4, k0_pay5, k0_pay6, k0_pay7, k0_pay8, k0_pay9, k0_pay10, dx, cot, err, ms]
  refine congrArg₂ (fun p q : EReal => p * q) (congrArg (fun p : EReal => Ideal.rsqrt (Ideal.div p _ + _)) (Finset.sum_congr rfl fun l _ => congrArg₂ (fun p q : EReal => p * q) ?_ ?_)) (congrArg₂ (fun p q : EReal => p - q) (congrArg₂ (fun p q : EReal => p * q) (congrArg (fun p : EReal => p * _) (congrArg₂ (fun p q : EReal => p - q) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) ?_) ?_)) ?_) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) (congrArg (fun p : EReal => Ideal.div p _) (Finset.sum_congr rfl fun k _ => (congrArg₂ (fun p q : EReal => p * q) (congrArg₂ (fun p q : EReal => p * q) (congrArg (fun p : EReal => p * _) (congrArg₂ (fun p q : EReal => p - q) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) ?_) ?_)) ?_) (congrArg₂ (fun p q : EReal => p * q) ?_ (congrArg (fun p : EReal => Ideal.rsqrt (Ideal.div p _ + _)) (Finset.sum_congr rfl fun l _ => congrArg₂ (fun p q : EReal => p * q) ?_ ?_))))))))
  all_goals blk_ext [iblk, V, idx t]

set_option maxHeartbeats 4000000 in
/-- The array after the last grid step: each element lies in the block of one step. -/
theorem final_4 : (dats m 0 c).arrAt 4 cfg0.N = dxb (argX m c) (argG m c) (argT m c) := by
  refine (dats m 0 c).arrAt_eq_of_covers 4 _ (by decide +kernel) fun t hf y => ?_
  blk_simp
  rw [after0_4, out4 m c t]
  pointwise [k0_pay1, k0_pay2, k0_pay3, k0_pay4, k0_pay5, k0_pay6, k0_pay7, k0_pay8, k0_pay9, k0_pay10, dxb, dx, cot, err, ms]
  refine congrArg₂ (fun p q : EReal => p * q) (congrArg (fun p : EReal => Ideal.rsqrt (Ideal.div p _ + _)) (Finset.sum_congr rfl fun l _ => congrArg₂ (fun p q : EReal => p * q) ?_ ?_)) (congrArg₂ (fun p q : EReal => p - q) (congrArg₂ (fun p q : EReal => p * q) (congrArg (fun p : EReal => p * _) (congrArg₂ (fun p q : EReal => p - q) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) ?_) ?_)) ?_) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) (congrArg (fun p : EReal => Ideal.div p _) (Finset.sum_congr rfl fun k _ => (congrArg₂ (fun p q : EReal => p * q) (congrArg₂ (fun p q : EReal => p * q) (congrArg (fun p : EReal => p * _) (congrArg₂ (fun p q : EReal => p - q) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) ?_) ?_)) ?_) (congrArg₂ (fun p q : EReal => p * q) ?_ (congrArg (fun p : EReal => Ideal.rsqrt (Ideal.div p _ + _)) (Finset.sum_congr rfl fun l _ => congrArg₂ (fun p q : EReal => p * q) ?_ ?_))))))))
  all_goals blk_ext [iblk, V, idx t]

set_option maxHeartbeats 4000000 in
/-- The array after the last grid step, which adds the four steps' parts. -/
theorem final_5 : (dats m 0 c).arrAt 5 cfg0.N = dg (argX m c) (argG m c) (argT m c) := by
  refine (dats m 0 c).arrAt_eq_of_covers 5 _ (by decide +kernel) fun t hf y => ?_
  have ht := (flush0_5 t).mp hf
  blk_simp
  rw [after0_5]
  refine (acc_sum5 m c t ht y).trans ((zero_add _).trans ?_)
  simp only [part5]
  pointwise [k0_pay1, k0_pay2, k0_pay3, k0_pay4, k0_pay5, k0_pay6, k0_pay7, k0_pay8, k0_pay9, k0_pay10, dg, cot, err, ms]
  refine Fin.sum_mul_add_congr fun s k hl => ?_
  refine congrArg₂ (fun p q : EReal => p * q) (congrArg (fun p : EReal => p * _) (congrArg₂ (fun p q : EReal => p - q) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) ?_) ?_)) (congrArg₂ (fun p q : EReal => p * q) ?_ (congrArg (fun p : EReal => Ideal.rsqrt (Ideal.div p _ + _)) (Finset.sum_congr rfl fun l _ => congrArg₂ (fun p q : EReal => p * q) ?_ ?_)))
  all_goals blk_ext [iblk, V, idx t, idx ⟨4 * (t.val / 4) + s.val, Pipeline.run_point_lt_of_flush (J := 4) t ht s⟩]

set_option maxHeartbeats 4000000 in
/-- The array after the last grid step, which adds the four steps' parts. -/
theorem final_6 : (dats m 0 c).arrAt 6 cfg0.N = sq (argX m c) (argG m c) (argT m c) := by
  refine (dats m 0 c).arrAt_eq_of_covers 6 _ (by decide +kernel) fun t hf y => ?_
  have ht := (flush0_6 t).mp hf
  blk_simp
  rw [after0_6]
  refine (acc_sum6 m c t ht y).trans ((zero_add _).trans ?_)
  simp only [part6]
  pointwise [k0_pay1, k0_pay2, k0_pay3, k0_pay4, k0_pay5, k0_pay6, k0_pay7, k0_pay8, k0_pay9, k0_pay10, sq, cot, err, ms]
  refine Fin.sum_mul_add_congr fun s k hl => ?_
  refine congrArg₂ (fun p q : EReal => p * q) (congrArg₂ (fun p q : EReal => p - q) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) ?_) ?_) (congrArg₂ (fun p q : EReal => p - q) (congrArg₂ (fun p q : EReal => p * q) (congrArg₂ (fun p q : EReal => p * q) ?_ (congrArg (fun p : EReal => Ideal.rsqrt (Ideal.div p _ + _)) (Finset.sum_congr rfl fun l _ => congrArg₂ (fun p q : EReal => p * q) ?_ ?_))) ?_) ?_)
  all_goals blk_ext [iblk, V, idx t, idx ⟨4 * (t.val / 4) + s.val, Pipeline.run_point_lt_of_flush (J := 4) t ht s⟩]

/-- The loss's cotangent, as its derivative leaves it: half, divided by 1024, of twice the error. -/
theorem scale (e : EReal) : Ideal.div (Ideal.ofBits .f32 0x3F000000#32 * Ideal.ofBits .f32 0x3F800000#32) (Ideal.ofBits .f32 0x44800000#32) * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee]; rw [← EReal.coe_mul]; norm_num
  have h2 : Ideal.ofBits .f32 0x3F800000#32 = ((1 : ℝ) : EReal) := by
    simp [Ideal.ofBits, Ideal.ieee]; rw [← EReal.coe_mul]; norm_num
  have h3 : Ideal.ofBits .f32 0x40000000#32 = ((2 : ℝ) : EReal) := by
    simp [Ideal.ofBits, Ideal.ieee]; rw [← EReal.coe_mul]; norm_num
  have h4 : Ideal.ofBits .f32 0x3A800000#32 = ((1 / 1024 : ℝ) : EReal) := by
    simp [Ideal.ofBits, Ideal.ieee]; rw [← EReal.coe_mul]; norm_num
  rw [Cert.NormAlg.div1024, h1, h2, h3, h4, ← EReal.coe_mul, ← EReal.coe_mul, ← mul_assoc, ← EReal.coe_mul, mul_comm]
  refine congrArg (fun p : ℝ => e * (p : EReal)) ?_
  norm_num

/-- The norm's cotangent as the loss's derivative leaves it. -/
def cotU (X : FVec Ideal S2048x1024 .f32) (G : FVec Ideal S1x1024 .f32) (T : FVec Ideal S2048x1024 .f32) (r : Fin 2048) (k : Fin 1024) : EReal :=
  Ideal.div (Ideal.ofBits .f32 0x3F000000#32 * Ideal.ofBits .f32 0x3F800000#32) (Ideal.ofBits .f32 0x44800000#32) * (Ideal.ofBits .f32 0x40000000#32 * err X G T r k)

/-- The two cotangents are the same. -/
theorem cotU_eq (X : FVec Ideal S2048x1024 .f32) (G : FVec Ideal S1x1024 .f32) (T : FVec Ideal S2048x1024 .f32) : cotU X G T = cot X G T := by
  funext r k
  exact scale _

/-- The part of a row's gradient that comes through its mean square. -/
def thr (X : FVec Ideal S2048x1024 .f32) (G : FVec Ideal S1x1024 .f32) (T : FVec Ideal S2048x1024 .f32) (r : Fin 2048) : EReal :=
  Ideal.div ((∑ k : Fin 1024, (X (ix2 r k) : EReal) * (cotU X G T r k * (G (ix2 0 k) : EReal))) * (Ideal.ofBits .f32 0xBF000000#32 * Ideal.div (Ideal.rsqrt (ms X r)) (ms X r))) (Ideal.ofBits .f32 0x44800000#32)

/-- The argument's gradient as the derivative leaves it. -/
def dxU (X : FVec Ideal S2048x1024 .f32) (G : FVec Ideal S1x1024 .f32) (T : FVec Ideal S2048x1024 .f32) : FVec Ideal S2048x1024 .f32 :=
  fun j => (cotU X G T (j 0) (j 1) * (G (ix2 0 (j 1)) : EReal) * Ideal.rsqrt (ms X (j 0)) + (X j : EReal) * thr X G T (j 0) + thr X G T (j 0) * (X j : EReal) : EReal)

/-- The two forms of the argument's gradient are the same. -/
theorem dxU_eq (X : FVec Ideal S2048x1024 .f32) (G : FVec Ideal S1x1024 .f32) (T : FVec Ideal S2048x1024 .f32) : dxU X G T = dx X G T := by
  funext j
  unfold dxU dx thr
  rw [cotU_eq]
  exact Cert.NormAlg.eq _ _ _ _ _ (Cert.NormAlg.ms_cases fun k : Fin 1024 => (X (ix2 (j 0) k) : EReal))

/-- The gain's gradient as the derivative leaves it. -/
def dgU (X : FVec Ideal S2048x1024 .f32) (G : FVec Ideal S1x1024 .f32) (T : FVec Ideal S2048x1024 .f32) : FVec Ideal S1x1024 .f32 :=
  fun j => (∑ r : Fin 2048, (X (ix2 r (j 1)) : EReal) * Ideal.rsqrt (ms X r) * cotU X G T r (j 1) : EReal)

/-- The two forms of the gain's gradient are the same. -/
theorem dgU_eq (X : FVec Ideal S2048x1024 .f32) (G : FVec Ideal S1x1024 .f32) (T : FVec Ideal S2048x1024 .f32) : dgU X G T = dg X G T := by
  funext j
  unfold dgU dg
  rw [cotU_eq]
  exact Finset.sum_congr rfl fun r _ => mul_comm _ _

set_option maxHeartbeats 2000000 in
/-- The reference's gradient of the argument, read element by element. -/
theorem ref_dx (m' : (ℓ : Loc Cert.Reference18Ideal.nD Cert.Reference18Ideal.τ Cert.Reference18Ideal.sig) → Buf (Elt Ideal) ℓ) (c : Dev Cert.Reference18Ideal.nD) :
    Cert.Reference18Ideal.Value.res_main_v49 (F := Ideal) m' c = dx (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) := by
  unfold Cert.Reference18Ideal.Value.res_main_v49
  generalize m' ((c.tc : Thread Cert.Reference18Ideal.nD Cert.Reference18Ideal.τ).loc Cert.Reference18Ideal.main_arg0) = X
  generalize m' ((c.tc : Thread Cert.Reference18Ideal.nD Cert.Reference18Ideal.τ).loc Cert.Reference18Ideal.main_arg1) = G
  generalize m' ((c.tc : Thread Cert.Reference18Ideal.nD Cert.Reference18Ideal.τ).loc Cert.Reference18Ideal.main_arg2) = T
  rw [← dxU_eq]
  funext j
  pointwise [dxU, thr, cotU, err, ms]
  simp only [Fin.sum_univ_one] <;> rfl

set_option maxHeartbeats 2000000 in
/-- The reference's gradient of the argument, read element by element. -/
theorem ref_dxb (m' : (ℓ : Loc Cert.Reference18Ideal.nD Cert.Reference18Ideal.τ Cert.Reference18Ideal.sig) → Buf (Elt Ideal) ℓ) (c : Dev Cert.Reference18Ideal.nD) :
    Cert.Reference18Ideal.Value.res_main_v50 (F := Ideal) m' c = dxb (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) := by
  unfold Cert.Reference18Ideal.Value.res_main_v50
  generalize m' ((c.tc : Thread Cert.Reference18Ideal.nD Cert.Reference18Ideal.τ).loc Cert.Reference18Ideal.main_arg0) = X
  generalize m' ((c.tc : Thread Cert.Reference18Ideal.nD Cert.Reference18Ideal.τ).loc Cert.Reference18Ideal.main_arg1) = G
  generalize m' ((c.tc : Thread Cert.Reference18Ideal.nD Cert.Reference18Ideal.τ).loc Cert.Reference18Ideal.main_arg2) = T
  unfold dxb; rw [← dxU_eq]
  funext j
  pointwise [dxU, thr, cotU, err, ms]
  simp only [Fin.sum_univ_one] <;> rfl

set_option maxHeartbeats 2000000 in
/-- The reference's gradient of the gain, read element by element. -/
theorem ref_dg (X : FVec Ideal S2048x1024 .f32) (G : FVec Ideal S1x1024 .f32) (T : FVec Ideal S2048x1024 .f32) :
    (shapeCast _ (Host.reduceAdd (mulf (mulf X (broadcastInDim Cert.Reference18Ideal.S2048x1024 ![0, 1] Cert.Reference18Ideal.Gen.bcast_S2048x1_S2048x1024_0_1 (Host.rsqrt (addf (Host.divf (broadcastInDim Cert.Reference18Ideal.S2048x1 ![0] Cert.Reference18Ideal.Gen.bcast_S2048_S2048x1_0 (Host.reduceAdd (mulf X X) (constant Cert.Reference18Ideal.S_ .f32 0x00000000#32) Cert.Reference18Ideal.Gen.reducesTo_S2048x1024_S2048_d1 Cert.Reference18Ideal.Gen.h_S_)) (broadcastInDim Cert.Reference18Ideal.S2048x1 ![] Cert.Reference18Ideal.Gen.bcast_S_S2048x1 (constant Cert.Reference18Ideal.S_ .f32 0x44800000#32))) (broadcastInDim Cert.Reference18Ideal.S2048x1 ![] Cert.Reference18Ideal.Gen.bcast_S_S2048x1 (constant Cert.Reference18Ideal.S_ .f32 0x3727C5AC#32)))))) (mulf (broadcastInDim Cert.Reference18Ideal.S2048x1024 ![0] Cert.Reference18Ideal.Gen.bcast_S2048_S2048x1024_0 (Host.divf (broadcastInDim Cert.Reference18Ideal.S2048 ![] Cert.Reference18Ideal.Gen.bcast_S_S2048 (mulf (constant Cert.Reference18Ideal.S_ .f32 0x3F000000#32) (constant Cert.Reference18Ideal.S_ .f32 0x3F800000#32))) (broadcastInDim Cert.Reference18Ideal.S2048 ![] Cert.Reference18Ideal.Gen.bcast_S_S2048 (constant Cert.Reference18Ideal.S_ .f32 0x44800000#32)))) (mulf (broadcastInDim Cert.Reference18Ideal.S2048x1024 ![] Cert.Reference18Ideal.Gen.bcast_S_S2048x1024 (constant Cert.Reference18Ideal.S_ .f32 0x40000000#32)) (subf (mulf (mulf X (broadcastInDim Cert.Reference18Ideal.S2048x1024 ![0, 1] Cert.Reference18Ideal.Gen.bcast_S2048x1_S2048x1024_0_1 (Host.rsqrt (addf (Host.divf (broadcastInDim Cert.Reference18Ideal.S2048x1 ![0] Cert.Reference18Ideal.Gen.bcast_S2048_S2048x1_0 (Host.reduceAdd (mulf X X) (constant Cert.Reference18Ideal.S_ .f32 0x00000000#32) Cert.Reference18Ideal.Gen.reducesTo_S2048x1024_S2048_d1 Cert.Reference18Ideal.Gen.h_S_)) (broadcastInDim Cert.Reference18Ideal.S2048x1 ![] Cert.Reference18Ideal.Gen.bcast_S_S2048x1 (constant Cert.Reference18Ideal.S_ .f32 0x44800000#32))) (broadcastInDim Cert.Reference18Ideal.S2048x1 ![] Cert.Reference18Ideal.Gen.bcast_S_S2048x1 (constant Cert.Reference18Ideal.S_ .f32 0x3727C5AC#32)))))) (broadcastInDim Cert.Reference18Ideal.S2048x1024 ![0, 1] Cert.Reference18Ideal.Gen.bcast_S1x1024_S2048x1024_0_1 G)) T)))) (constant Cert.Reference18Ideal.S_ .f32 0x00000000#32) Cert.Reference18Ideal.Gen.reducesTo_S2048x1024_S1024_d0 Cert.Reference18Ideal.Gen.h_S_) Cert.Reference18Ideal.Gen.shapeCasts_S1024_S1x1024) = dg X G T := by
  rw [← dgU_eq]
  funext j
  pointwise [dgU, cotU, err, ms]

set_option maxHeartbeats 2000000 in
/-- The reference's sum of the squared errors, read element by element. -/
theorem ref_sq (X : FVec Ideal S2048x1024 .f32) (G : FVec Ideal S1x1024 .f32) (T : FVec Ideal S2048x1024 .f32) :
    (broadcastInDim Cert.Reference18Ideal.S1x1024 ![1] Cert.Reference18Ideal.Gen.bcast_S1024_S1x1024_1 (Host.reduceAdd (mulf (subf (mulf (mulf X (broadcastInDim Cert.Reference18Ideal.S2048x1024 ![0, 1] Cert.Reference18Ideal.Gen.bcast_S2048x1_S2048x1024_0_1 (Host.rsqrt (addf (Host.divf (broadcastInDim Cert.Reference18Ideal.S2048x1 ![0] Cert.Reference18Ideal.Gen.bcast_S2048_S2048x1_0 (Host.reduceAdd (mulf X X) (constant Cert.Reference18Ideal.S_ .f32 0x00000000#32) Cert.Reference18Ideal.Gen.reducesTo_S2048x1024_S2048_d1 Cert.Reference18Ideal.Gen.h_S_)) (broadcastInDim Cert.Reference18Ideal.S2048x1 ![] Cert.Reference18Ideal.Gen.bcast_S_S2048x1 (constant Cert.Reference18Ideal.S_ .f32 0x44800000#32))) (broadcastInDim Cert.Reference18Ideal.S2048x1 ![] Cert.Reference18Ideal.Gen.bcast_S_S2048x1 (constant Cert.Reference18Ideal.S_ .f32 0x3727C5AC#32)))))) (broadcastInDim Cert.Reference18Ideal.S2048x1024 ![0, 1] Cert.Reference18Ideal.Gen.bcast_S1x1024_S2048x1024_0_1 G)) T) (subf (mulf (mulf X (broadcastInDim Cert.Reference18Ideal.S2048x1024 ![0, 1] Cert.Reference18Ideal.Gen.bcast_S2048x1_S2048x1024_0_1 (Host.rsqrt (addf (Host.divf (broadcastInDim Cert.Reference18Ideal.S2048x1 ![0] Cert.Reference18Ideal.Gen.bcast_S2048_S2048x1_0 (Host.reduceAdd (mulf X X) (constant Cert.Reference18Ideal.S_ .f32 0x00000000#32) Cert.Reference18Ideal.Gen.reducesTo_S2048x1024_S2048_d1 Cert.Reference18Ideal.Gen.h_S_)) (broadcastInDim Cert.Reference18Ideal.S2048x1 ![] Cert.Reference18Ideal.Gen.bcast_S_S2048x1 (constant Cert.Reference18Ideal.S_ .f32 0x44800000#32))) (broadcastInDim Cert.Reference18Ideal.S2048x1 ![] Cert.Reference18Ideal.Gen.bcast_S_S2048x1 (constant Cert.Reference18Ideal.S_ .f32 0x3727C5AC#32)))))) (broadcastInDim Cert.Reference18Ideal.S2048x1024 ![0, 1] Cert.Reference18Ideal.Gen.bcast_S1x1024_S2048x1024_0_1 G)) T)) (constant Cert.Reference18Ideal.S_ .f32 0x00000000#32) Cert.Reference18Ideal.Gen.reducesTo_S2048x1024_S1024_d0 Cert.Reference18Ideal.Gen.h_S_)) = sq X G T := by
  funext j
  pointwise [sq, err, ms]

/-- Over the reals the call and its reference leave the same results. -/
theorem algebraic : Cert.algebraic_Kernel18Ideal_Reference18Ideal := fun m ρ m' ρ' _ hm => by
  refine ⟨fun c => dx (argX m c) (argG m c) (argT m c), fun c => dxb (argX m c) (argG m c) (argT m c), fun c => dg (argX m c) (argG m c) (argT m c), fun c => sq (argX m c) (argG m c) (argT m c),
    (θ_run Cert.Kernel18Ideal.defs _ _).mono (fun r h c => ⟨(h c).1.trans (final_3 m c), (h c).2.1.trans (final_4 m c), (h c).2.2.1.trans (final_5 m c), (h c).2.2.2.1.trans (final_6 m c), (h c).2.2.2.2⟩) (Cert.Kernel18Ideal.Value.run_blocks m ρ),
    (θ_run Cert.Reference18Ideal.defs _ _).mono (fun r h c => ⟨(h c).1.trans ?_, (h c).2.1.trans ?_, (h c).2.2.1.trans ?_, (h c).2.2.2.1.trans ?_, (h c).2.2.2.2⟩) (Cert.Reference18Ideal.Value.run m' ρ')⟩
  · refine (ref_dx m' c).trans ?_
    rw [(hm c).1, (hm c).2.1, (hm c).2.2]
  · refine (ref_dxb m' c).trans ?_
    rw [(hm c).1, (hm c).2.1, (hm c).2.2]
  · rw [(hm c).1, (hm c).2.1, (hm c).2.2]
    exact ref_dg _ _ _
  · rw [(hm c).1, (hm c).2.1, (hm c).2.2]
    exact ref_sq _ _ _

end Cert.Kernel18Ideal.LossX

end
-- ==== Proof.lean ====
/-
  The certificate's claim: every call ends with its arguments unchanged and every semaphore at zero, at machine floats and
  at the reals; so does its reference; and over the reals the two leave the same results. The convolution's gradient comes
  first, then the others in the order of their numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Pre_finite7
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import Idealize.ShloMosaic.Adequacy
public import proofs.«01_k».proof.Proof.Gen.ReferenceIdeal.Run
public import proofs.«01_k».proof.Proof.ConvValue
public import proofs.«01_k».proof.Proof.ProjX
public import proofs.«01_k».proof.Proof.ProjW
public import proofs.«01_k».proof.Proof.GateUpX
public import proofs.«01_k».proof.Proof.GateUpW
public import proofs.«01_k».proof.Proof.DownW
public import proofs.«01_k».proof.Proof.DownX
public import proofs.«01_k».proof.Proof.MixW
public import proofs.«01_k».proof.Proof.BranchX
public import proofs.«01_k».proof.Proof.ProjFwd
public import proofs.«01_k».proof.Proof.GateUpFwd
public import proofs.«01_k».proof.Proof.DownFwd
public import proofs.«01_k».proof.Proof.OutFwd
public import proofs.«01_k».proof.Proof.MergeFwd
public import proofs.«01_k».proof.Proof.ConvFwd
public import proofs.«01_k».proof.Proof.NormFwd
public import proofs.«01_k».proof.Proof.NormX
public import proofs.«01_k».proof.Proof.LossX
public import Idealize.ShloMosaic.Lib.Claim
public import Idealize.ShloMosaic.Init

@[expose] public section

set_option maxRecDepth 16384

noncomputable section

namespace Cert.Proof

open Idealize.ShloMosaic Idealize.SL.Sem Cert.Kernel

/-- The two prints are one text. -/
theorem bodies_eq : Cert.Kernel.defs₀ (F := Bits) = Cert.KernelIdeal.defs₀ (F := Bits) := by
  funext p l x
  unfold Cert.Kernel.defs₀ Cert.KernelIdeal.defs₀
  refine congrFun (congrFun (congrFun (congrArg Defs.onTc ?_) p) l) x
  funext l x
  match l, x with
  | 0, (t, s) => rfl

theorem defs_eq : Cert.Kernel.defs (F := Bits) = Cert.KernelIdeal.defs (F := Bits) := by
  unfold Cert.Kernel.defs Cert.KernelIdeal.defs
  rw [bodies_eq]
  rfl

/-- One run serves both frames: the program's text is the same at machine floats and at the reals. -/
theorem frame_kernel : Cert.quiescent_Kernel := fun m ρ _ => by
  rw [defs_eq]
  exact (θ_run Cert.KernelIdeal.defs _ _).mono (fun _ h => h.1) (Cert.KernelIdeal.Conv.frame_of_run (F := Bits) m ρ (fun _ => True) fun _ _ => trivial)

theorem frame_ideal : Cert.quiescent_KernelIdeal := fun m ρ _ =>
  (θ_run Cert.KernelIdeal.defs _ _).mono (fun _ h => h.1) (Cert.KernelIdeal.Conv.frame_of_run (F := Ideal) m ρ (fun _ => True) fun _ _ => trivial)

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := fun m ρ m' ρ' _ hm => by
  refine ⟨fun c => Cert.ReferenceIdeal.Value.res_out0 m' c,
    fun c => (Cert.KernelIdeal.Conv.dats m 0 c).arrAt 5 Cert.KernelIdeal.cfg0.N,
    (θ_run Cert.KernelIdeal.defs _ _).mono (fun r h c => ⟨?_, (h.2 c).1, h.1.1 c⟩)
      (Cert.KernelIdeal.Conv.frame_of_run (F := Ideal) m ρ
        (fun r => ∀ c : Dev Cert.KernelIdeal.nD, r.2.mem ((c.tc : Thread Cert.KernelIdeal.nD Cert.KernelIdeal.τ).loc Cert.KernelIdeal.main_v0_1)
            = (Cert.KernelIdeal.Conv.dats m 0 c).arrAt 5 Cert.KernelIdeal.cfg0.N
          ∧ r.2.mem ((c.tc : Thread Cert.KernelIdeal.nD Cert.KernelIdeal.τ).loc Cert.KernelIdeal.main_v0_0) = Cert.KernelIdeal.Conv.dprojAt m c 4)
        fun r h c => ⟨(h.1 c).1 5, (h.2 c Cert.KernelIdeal.main_v0_0 (by decide)).trans (Cert.KernelIdeal.Conv.Gat_self m c 4)⟩),
    (θ_run Cert.ReferenceIdeal.defs _ _).mono (fun r h c => ⟨(h c).1, (h c).2.1.trans ?_, (h c).2.2⟩) (Cert.ReferenceIdeal.Conv.run_cols m' ρ')⟩
  · exact (h.2 c).2.trans (Cert.KernelIdeal.Conv.dproj_final m c m' (hm c).1 (hm c).2.1 (hm c).2.2.1 (hm c).2.2.2)
  · have e := Cert.KernelIdeal.Conv.dw_final m c
    rw [← show Cert.ReferenceIdeal.Conv.argDy m' c = Cert.KernelIdeal.Conv.argDy m c from (hm c).1,
      ← show Cert.ReferenceIdeal.Conv.argP m' c = Cert.KernelIdeal.Conv.argP m c from (hm c).2.1,
      ← show Cert.ReferenceIdeal.Conv.argW m' c = Cert.KernelIdeal.Conv.argW m c from (hm c).2.2.1] at e
    exact e.symm

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_reference17 : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem frame_reference18 : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Pre_finite7.Gen.facts,
    frame_kernel, frame_ideal, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, fun m ρ _ => Cert.Kernel7Ideal.Gen.frame m ρ, frame_reference7, fun m ρ _ => frame_reference7 m ρ trivial,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    trivial, algebraic,
    trivial, Cert.Kernel2Ideal.ProjX.algebraic,
    trivial, Cert.Kernel3Ideal.ProjW.algebraic,
    trivial, Cert.Kernel4Ideal.GateUpX.algebraic,
    trivial, Cert.Kernel5Ideal.GateUpW.algebraic,
    trivial, Cert.Kernel6Ideal.DownW.algebraic,
    trivial, Cert.Kernel7Ideal.DownX.algebraic,
    trivial, Cert.Kernel8Ideal.MixW.algebraic,
    trivial, Cert.Kernel9Ideal.BranchX.algebraic,
    trivial, Cert.Kernel10Ideal.ProjFwd.algebraic,
    trivial, Cert.Kernel11Ideal.GateUpFwd.algebraic,
    trivial, Cert.Kernel12Ideal.DownFwd.algebraic,
    trivial, Cert.Kernel13Ideal.OutFwd.algebraic,
    trivial, Cert.Kernel14Ideal.MergeFwd.algebraic,
    trivial, Cert.Kernel15Ideal.ConvFwd.algebraic,
    trivial, Cert.Kernel16Ideal.NormFwd.algebraic,
    trivial, Cert.Kernel17Ideal.NormX.algebraic,
    trivial, Cert.Kernel18Ideal.LossX.algebraic⟩

end Cert.Proof

end
